-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tables_agree [hPre_tables_agree : Cert.Pre_tables_agree.Facts] (m : (ℓ : Loc Cert.KernelIdeal.nD Cert.KernelIdeal.τ Cert.KernelIdeal.sig) → Buf (Elt Ideal) ℓ) : Prop :=
  ∀ c : Dev Cert.KernelIdeal.nD,
    (Cert.Pre_tables_agree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_agree [hPre_tables_agree : Cert.Pre_tables_agree.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_agree.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tables_agree [hKernelIdeal : Cert.KernelIdeal.Facts] [hPre_tables_agree : Cert.Pre_tables_agree.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables_agree m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tables_agree [hReferenceIdeal : Cert.ReferenceIdeal.Facts] [hPre_tables_agree : Cert.Pre_tables_agree.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_agree m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "neg_inv_cut" .f32 0xBE4CCCCD#32 ((-1 / 5 : ℝ) : EReal)
  ∧ IdealRules.named_const.Statement Cert.KernelIdeal.κ "inv_cut" .f32 0x3E4CCCCD#32 ((1 / 5 : ℝ) : EReal)

def algebraic_KernelIdeal_ReferenceIdeal_pre_tables_agree [hKernelIdeal : Cert.KernelIdeal.Facts] [hReferenceIdeal : Cert.ReferenceIdeal.Facts] [hPre_tables_agree : Cert.Pre_tables_agree.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables_agree m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v116) = v2 c
          ∧ r.2.mem ((c.tc : Thread Cert.ReferenceIdeal.nD Cert.ReferenceIdeal.τ).loc Cert.ReferenceIdeal.main_v136) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tables_agree : Cert.Pre_tables_agree.Facts),
    quiescent_Kernel (hKernel := hKernel)
    ∧ quiescent_KernelIdeal (hKernelIdeal := hKernelIdeal)
    ∧ quiescent_KernelIdeal_pre_tables_agree (hKernelIdeal := hKernelIdeal) (hPre_tables_agree := hPre_tables_agree)
    ∧ quiescent_ReferenceIdeal (hReferenceIdeal := hReferenceIdeal)
    ∧ quiescent_ReferenceIdeal_pre_tables_agree (hReferenceIdeal := hReferenceIdeal) (hPre_tables_agree := hPre_tables_agree)
    ∧ preserves_Kernel_KernelIdeal
    ∧ algebraic_KernelIdeal_ReferenceIdeal_pre_tables_agree (hKernelIdeal := hKernelIdeal) (hReferenceIdeal := hReferenceIdeal) (hPre_tables_agree := hPre_tables_agree)
-- ==== Pre_tables_agree.lean ====
abbrev S160000 : Shape := ⟨1, ![160000]⟩
abbrev S1024x36 : Shape := ⟨2, ![1024, 36]⟩
abbrev S4x4x12x32 : Shape := ⟨4, ![4, 4, 12, 32]⟩
abbrev S4x4x32x32 : Shape := ⟨4, ![4, 4, 32, 32]⟩
abbrev S4x4x32x12 : Shape := ⟨4, ![4, 4, 32, 12]⟩
abbrev S36 : Shape := ⟨1, ![36]⟩
abbrev S_ : Shape := ⟨0, ![]⟩
abbrev S1x36 : Shape := ⟨2, ![1, 36]⟩
abbrev S160000x1 : Shape := ⟨2, ![160000, 1]⟩
abbrev S160000x36 : Shape := ⟨2, ![160000, 36]⟩
abbrev S1 : Shape := ⟨1, ![1]⟩
abbrev S1x1 : Shape := ⟨2, ![1, 1]⟩

class Facts : Prop where
  bcast_S_S36 : S_.BroadcastsInDim S36 (![] : Fin 0 → Fin S36.rank)
  bcast_S36_S1x36_1 : S36.BroadcastsInDim S1x36 (![1] : Fin 1 → Fin S1x36.rank)
  bcast_S160000_S160000x1_0 : S160000.BroadcastsInDim S160000x1 (![0] : Fin 1 → Fin S160000x1.rank)
  bcast_S1x36_S160000x36_0_1 : S1x36.BroadcastsInDim S160000x36 (![0, 1] : Fin 2 → Fin S160000x36.rank)
  bcast_S160000x1_S160000x36_0_1 : S160000x1.BroadcastsInDim S160000x36 (![0, 1] : Fin 2 → Fin S160000x36.rank)
  bcast_S_S160000x36 : S_.BroadcastsInDim S160000x36 (![] : Fin 0 → Fin S160000x36.rank)
  bcast_S_S160000x1 : S_.BroadcastsInDim S160000x1 (![] : Fin 0 → Fin S160000x1.rank)
  bcast_S_S160000 : S_.BroadcastsInDim S160000 (![] : Fin 0 → Fin S160000.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  reducesTo_S160000x1_S160000_d1 : S160000x1.ReducesTo [1] S160000
  h_S_ : 0 < S_.numel
  bcast_S160000_S160000x36_0 : S160000.BroadcastsInDim S160000x36 (![0] : Fin 1 → Fin S160000x36.rank)
  reducesTo_S160000x36_S_d0_1 : S160000x36.ReducesTo [0, 1] S_
  reducesTo_S160000_S_d0 : S160000.ReducesTo [0] S_
  bcast_S_S4x4x12x32 : S_.BroadcastsInDim S4x4x12x32 (![] : Fin 0 → Fin S4x4x12x32.rank)
  reducesTo_S4x4x12x32_S_d0_1_2_3 : S4x4x12x32.ReducesTo [0, 1, 2, 3] S_
  bcast_S_S4x4x32x32 : S_.BroadcastsInDim S4x4x32x32 (![] : Fin 0 → Fin S4x4x32x32.rank)
  reducesTo_S4x4x32x32_S_d0_1_2_3 : S4x4x32x32.ReducesTo [0, 1, 2, 3] S_
  gather_S1024x36_S160000x1_S160000x36_1_0_n_n_0_1_136_wf : GatherDims.WF S1024x36 S160000x1 S160000x36 [1] [0] [] [0] [] 1 ![1, 36]

variable [Facts]

def gather_S1024x36_S160000x1_S160000x36_1_0_n_n_0_1_136 : GatherDims S1024x36 S160000x1 S160000x36 where
  offsetDims := [1]
  collapsedSliceDims := [0]
  operandBatchingDims := []
  startIndicesBatchingDims := []
  startIndexMap := [0]
  indexVectorDim := 1
  sliceSizes := ![1, 36]
  wf := gather_S1024x36_S160000x1_S160000x36_1_0_n_n_0_1_136_wf
def fn_where {F : FTy → Type} [FloatOps F] (arg0 : IVec S160000x36 1) (arg1 : FVec F S160000x36 .f32) (arg2 : FVec F S160000x36 .f32) : FVec F S160000x36 .f32 :=
  let v0 : FVec F S160000x36 .f32 := select arg0 arg1 arg2
  v0

def fn_clip {F : FTy → Type} [FloatOps F] (arg0 : IVec S160000 32) (arg1 : IVec S_ 32) (arg2 : IVec S_ 32) : IVec S160000 32 :=
  let v0 : IVec S_ 32 := id arg1
  let v1 : IVec S160000 32 := broadcastInDim S160000 ![] bcast_S_S160000 v0
  let v2 : IVec S160000 32 := maxsi v1 arg0
  let v3 : IVec S_ 32 := id arg2
  let v4 : IVec S160000 32 := broadcastInDim S160000 ![] bcast_S_S160000 v3
  let v5 : IVec S160000 32 := minsi v4 v2
  v5

def fn_where_0 {F : FTy → Type} [FloatOps F] (arg0 : IVec S160000 1) (arg1 : IVec S160000 32) (arg2 : IVec S160000 32) : IVec S160000 32 :=
  let v0 : IVec S160000 32 := select arg0 arg1 arg2
  v0

def fn_take {F : FTy → Type} [FloatOps F] (arg0 : FVec F S1024x36 .f32) (arg1 : IVec S160000 32) : FVec F S160000x36 .f32 :=
  let c : IVec S_ 32 := constantI S_ 32 0#32
  let v0 : IVec S160000 32 := broadcastInDim S160000 ![] bcast_S_S160000 c
  let v1 : IVec S160000 1 := cmpi .slt arg1 v0
  let c_0 : IVec S_ 32 := constantI S_ 32 1024#32
  let v2 : IVec S160000 32 := broadcastInDim S160000 ![] bcast_S_S160000 c_0
  let v3 : IVec S160000 32 := addi arg1 v2
  let v4 : IVec S160000 32 := fn_where_0 (F := F) v1 v3 arg1
  let v5 : IVec S160000x1 32 := broadcastInDim S160000x1 ![0] bcast_S160000_S160000x1_0 v4
  let c_1 : IVec S1 32 := constantI S1 32 1023#32
  let c_2 : IVec S_ 32 := constantI S_ 32 0#32
  let v6 : IVec S160000x1 32 := broadcastInDim S160000x1 ![] bcast_S_S160000x1 c_2
  let v7 : IVec S160000x1 1 := cmpi .sge v5 v6
  let v8 : IVec S1x1 32 := broadcastInDim S1x1 ![1] bcast_S1_S1x1_1 c_1
  let v9 : IVec S160000x1 32 := broadcastInDim S160000x1 ![0, 1] bcast_S1x1_S160000x1_0_1 v8
  let v10 : IVec S160000x1 1 := cmpi .sle v5 v9
  let v11 : IVec S160000x1 1 := andi v7 v10
  let c_3 : IVec S_ 1 := constantI S_ 1 1#1
  let v12 : IVec S160000 1 := (fun x v => Host.reduce IntOp.andi x v reducesTo_S160000x1_S160000_d1 h_S_) v11 c_3
  let v13 : FVec F S160000x36 .f32 := (fun x i => Host.gather gather_S1024x36_S160000x1_S160000x36_1_0_n_n_0_1_136 x i) arg0 v5
  let v14 : IVec S160000x36 1 := broadcastInDim S160000x36 ![0] bcast_S160000_S160000x36_0 v12
  let cst : FVec F S_ .f32 := constant S_ .f32 0x7FC00000#32
  let v15 : FVec F S160000x36 .f32 := broadcastInDim S160000x36 ![] bcast_S_S160000x36 cst
  let v16 : FVec F S160000x36 .f32 := select v14 v13 v15
  v16

def fn_part7 {F : FTy → Type} [FloatOps F] (main_v130 : IVec S_ 1) (main_v131 : FVec F S4x4x32x32 .f32) : IVec S_ 1 :=
  let main_cst_34 : FVec F S_ .f32 := constant S_ .f32 0x7F800000#32
  let main_v132 : FVec F S4x4x32x32 .f32 := broadcastInDim S4x4x32x32 ![] bcast_S_S4x4x32x32 main_cst_34
  let main_v133 : IVec S4x4x32x32 1 := cmpf .olt main_v131 main_v132
  let main_c_35 : IVec S_ 1 := constantI S_ 1 1#1
  let main_v134 : IVec S_ 1 := (fun x v => Host.reduce IntOp.andi x v reducesTo_S4x4x32x32_S_d0_1_2_3 h_S_) main_v133 main_c_35
  let main_v135 : IVec S_ 1 := andi main_v130 main_v134
  main_v135

def fn_part6 {F : FTy → Type} [FloatOps F] (main_arg0 : FVec F S160000 .f32) (main_arg4 : FVec F S4x4x12x32 .f32) (main_arg5 : FVec F S4x4x32x32 .f32) (main_arg6 : FVec F S4x4x32x32 .f32) (main_v108 : IVec S_ 1) (main_v113 : IVec S160000 1) (main_c_27 : IVec S_ 1) : IVec S_ 1 :=
  let main_v114 : IVec S_ 1 := (fun x v => Host.reduce IntOp.andi x v reducesTo_S160000_S_d0 h_S_) main_v113 main_c_27
  let main_v115 : IVec S_ 1 := andi main_v108 main_v114
  let main_v116 : FVec F S160000 .f32 := Host.absf main_arg0
  let main_cst_28 : FVec F S_ .f32 := constant S_ .f32 0x7F800000#32
  let main_v117 : FVec F S160000 .f32 := broadcastInDim S160000 ![] bcast_S_S160000 main_cst_28
  let main_v118 : IVec S160000 1 := cmpf .olt main_v116 main_v117
  let main_c_29 : IVec S_ 1 := constantI S_ 1 1#1
  let main_v119 : IVec S_ 1 := (fun x v => Host.reduce IntOp.andi x v reducesTo_S160000_S_d0 h_S_) main_v118 main_c_29
  let main_v120 : IVec S_ 1 := andi main_v115 main_v119
  let main_v121 : FVec F S4x4x12x32 .f32 := Host.absf main_arg4
  let main_cst_30 : FVec F S_ .f32 := constant S_ .f32 0x7F800000#32
  let main_v122 : FVec F S4x4x12x32 .f32 := broadcastInDim S4x4x12x32 ![] bcast_S_S4x4x12x32 main_cst_30
  let main_v123 : IVec S4x4x12x32 1 := cmpf .olt main_v121 main_v122
  let main_c_31 : IVec S_ 1 := constantI S_ 1 1#1
  let main_v124 : IVec S_ 1 := (fun x v => Host.reduce IntOp.andi x v reducesTo_S4x4x12x32_S_d0_1_2_3 h_S_) main_v123 main_c_31
  let main_v125 : IVec S_ 1 := andi main_v120 main_v124
  let main_v126 : FVec F S4x4x32x32 .f32 := Host.absf main_arg5
  let main_cst_32 : FVec F S_ .f32 := constant S_ .f32 0x7F800000#32
  let main_v127 : FVec F S4x4x32x32 .f32 := broadcastInDim S4x4x32x32 ![] bcast_S_S4x4x32x32 main_cst_32
  let main_v128 : IVec S4x4x32x32 1 := cmpf .olt main_v126 main_v127
  let main_c_33 : IVec S_ 1 := constantI S_ 1 1#1
  let main_v129 : IVec S_ 1 := (fun x v => Host.reduce IntOp.andi x v reducesTo_S4x4x32x32_S_d0_1_2_3 h_S_) main_v128 main_c_33
  let main_v130 : IVec S_ 1 := andi main_v125 main_v129
  let main_v131 : FVec F S4x4x32x32 .f32 := Host.absf main_arg6
  fn_part7 (F := F) main_v130 main_v131

def fn_part5 {F : FTy → Type} [FloatOps F] (main_arg0 : FVec F S160000 .f32) (main_arg1 : IVec S160000 32) (main_arg4 : FVec F S4x4x12x32 .f32) (main_arg5 : FVec F S4x4x32x32 .f32) (main_arg6 : FVec F S4x4x32x32 .f32) (main_v49 : FVec F S160000x36 .f32) (main_v78 : FVec F S160000 .f32) (main_v79 : FVec F S160000 .f32) (main_v83 : FVec F S160000x36 .f32) (main_v84 : FVec F S160000x36 .f32) (main_v87 : FVec F S160000x36 .f32) (main_v90 : FVec F S160000x36 .f32) (main_v94 : FVec F S160000x36 .f32) : IVec S_ 1 :=
  let main_v95 : FVec F S160000x36 .f32 := mulf main_v94 main_v84
  let main_v96 : FVec F S160000x36 .f32 := addf main_v90 main_v95
  let main_v97 : FVec F S160000x1 .f32 := broadcastInDim S160000x1 ![0] bcast_S160000_S160000x1_0 main_v78
  let main_v98 : FVec F S160000x36 .f32 := broadcastInDim S160000x36 ![0, 1] bcast_S160000x1_S160000x36_0_1 main_v97
  let main_v99 : FVec F S160000x36 .f32 := mulf main_v98 main_v83
  let main_v100 : FVec F S160000x36 .f32 := addf main_v96 main_v99
  let main_v101 : FVec F S160000x1 .f32 := broadcastInDim S160000x1 ![0] bcast_S160000_S160000x1_0 main_v79
  let main_cst_23 : FVec F S_ .f32 := constant S_ .f32 0x3BA0280A#32
  let main_v102 : FVec F S160000x1 .f32 := broadcastInDim S160000x1 ![] bcast_S_S160000x1 main_cst_23
  let main_v103 : FVec F S160000x1 .f32 := mulf main_v101 main_v102
  let main_v104 : FVec F S160000x36 .f32 := broadcastInDim S160000x36 ![0, 1] bcast_S160000x1_S160000x36_0_1 main_v103
  let main_v105 : FVec F S160000x36 .f32 := mulf main_v104 main_v87
  let main_v106 : FVec F S160000x36 .f32 := addf main_v100 main_v105
  let main_v107 : IVec S160000x36 1 := cmpf .oeq main_v106 main_v49
  let main_c_24 : IVec S_ 1 := constantI S_ 1 1#1
  let main_v108 : IVec S_ 1 := (fun x v => Host.reduce IntOp.andi x v reducesTo_S160000x36_S_d0_1 h_S_) main_v107 main_c_24
  let main_c_25 : IVec S_ 32 := constantI S_ 32 0#32
  let main_v109 : IVec S160000 32 := broadcastInDim S160000 ![] bcast_S_S160000 main_c_25
  let main_v110 : IVec S160000 1 := cmpi .sge main_arg1 main_v109
  let main_c_26 : IVec S_ 32 := constantI S_ 32 4#32
  let main_v111 : IVec S160000 32 := broadcastInDim S160000 ![] bcast_S_S160000 main_c_26
  let main_v112 : IVec S160000 1 := cmpi .slt main_arg1 main_v111
  let main_v113 : IVec S160000 1 := andi main_v110 main_v112
  let main_c_27 : IVec S_ 1 := constantI S_ 1 1#1
  fn_part6 (F := F) main_arg0 main_arg4 main_arg5 main_arg6 main_v108 main_v113 main_c_27

def fn_part4 {F : FTy → Type} [FloatOps F] (main_arg0 : FVec F S160000 .f32) (main_arg1 : IVec S160000 32) (main_arg2 : FVec F S1024x36 .f32) (main_arg3 : FVec F S1024x36 .f32) (main_arg4 : FVec F S4x4x12x32 .f32) (main_arg5 : FVec F S4x4x32x32 .f32) (main_arg6 : FVec F S4x4x32x32 .f32) (main_v49 : FVec F S160000x36 .f32) (main_v54 : IVec S160000 32) (main_v61 : FVec F S160000 .f32) (main_v62 : FVec F S160000 .f32) (main_v69 : FVec F S160000 .f32) (main_v73 : FVec F S160000 .f32) (main_v74 : FVec F S160000 .f32) : IVec S_ 1 :=
  let main_v75 : FVec F S160000 .f32 := mulf main_v74 main_v62
  let main_cst_19 : FVec F S_ .f32 := constant S_ .f32 0x40400000#32
  let main_v76 : FVec F S160000 .f32 := broadcastInDim S160000 ![] bcast_S_S160000 main_cst_19
  let main_v77 : FVec F S160000 .f32 := mulf main_v76 main_v61
  let main_v78 : FVec F S160000 .f32 := addf main_v75 main_v77
  let main_v79 : FVec F S160000 .f32 := subf main_v62 main_v61
  let main_v80 : FVec F S160000x36 .f32 := fn_take (F := F) main_arg2 main_v54
  let main_c_20 : IVec S_ 32 := constantI S_ 32 1#32
  let main_v81 : IVec S160000 32 := broadcastInDim S160000 ![] bcast_S_S160000 main_c_20
  let main_v82 : IVec S160000 32 := addi main_v54 main_v81
  let main_v83 : FVec F S160000x36 .f32 := fn_take (F := F) main_arg2 main_v82
  let main_v84 : FVec F S160000x36 .f32 := fn_take (F := F) main_arg3 main_v54
  let main_c_21 : IVec S_ 32 := constantI S_ 32 1#32
  let main_v85 : IVec S160000 32 := broadcastInDim S160000 ![] bcast_S_S160000 main_c_21
  let main_v86 : IVec S160000 32 := addi main_v54 main_v85
  let main_v87 : FVec F S160000x36 .f32 := fn_take (F := F) main_arg3 main_v86
  let main_v88 : FVec F S160000x1 .f32 := broadcastInDim S160000x1 ![0] bcast_S160000_S160000x1_0 main_v69
  let main_v89 : FVec F S160000x36 .f32 := broadcastInDim S160000x36 ![0, 1] bcast_S160000x1_S160000x36_0_1 main_v88
  let main_v90 : FVec F S160000x36 .f32 := mulf main_v89 main_v80
  let main_v91 : FVec F S160000x1 .f32 := broadcastInDim S160000x1 ![0] bcast_S160000_S160000x1_0 main_v73
  let main_cst_22 : FVec F S_ .f32 := constant S_ .f32 0x3BA0280A#32
  let main_v92 : FVec F S160000x1 .f32 := broadcastInDim S160000x1 ![] bcast_S_S160000x1 main_cst_22
  let main_v93 : FVec F S160000x1 .f32 := mulf main_v91 main_v92
  let main_v94 : FVec F S160000x36 .f32 := broadcastInDim S160000x36 ![0, 1] bcast_S160000x1_S160000x36_0_1 main_v93
  fn_part5 (F := F) main_arg0 main_arg1 main_arg4 main_arg5 main_arg6 main_v49 main_v78 main_v79 main_v83 main_v84 main_v87 main_v90 main_v94

def fn_part3 {F : FTy → Type} [FloatOps F] (main_arg0 : FVec F S160000 .f32) (main_arg1 : IVec S160000 32) (main_arg2 : FVec F S1024x36 .f32) (main_arg3 : FVec F S1024x36 .f32) (main_arg4 : FVec F S4x4x12x32 .f32) (main_arg5 : FVec F S4x4x32x32 .f32) (main_arg6 : FVec F S4x4x32x32 .f32) (main_v49 : FVec F S160000x36 .f32) (main_v54 : IVec S160000 32) (main_v55 : FVec F S160000 .f32) (main_v56 : FVec F S160000 .f32) : IVec S_ 1 :=
  let main_v57 : FVec F S160000 .f32 := mulf main_v55 main_v56
  let main_v58 : FVec F S160000 .f32 := subf main_arg0 main_v57
  let main_cst_13 : FVec F S_ .f32 := constant S_ .f32 0x3BA0280A#32
  let main_v59 : FVec F S160000 .f32 := broadcastInDim S160000 ![] bcast_S_S160000 main_cst_13
  let main_v60 : FVec F S160000 .f32 := Host.divf main_v58 main_v59
  let main_v61 : FVec F S160000 .f32 := mulf main_v60 main_v60
  let main_v62 : FVec F S160000 .f32 := mulf main_v61 main_v60
  let main_cst_14 : FVec F S_ .f32 := constant S_ .f32 0x40000000#32
  let main_v63 : FVec F S160000 .f32 := broadcastInDim S160000 ![] bcast_S_S160000 main_cst_14
  let main_v64 : FVec F S160000 .f32 := mulf main_v63 main_v62
  let main_cst_15 : FVec F S_ .f32 := constant S_ .f32 0x40400000#32
  let main_v65 : FVec F S160000 .f32 := broadcastInDim S160000 ![] bcast_S_S160000 main_cst_15
  let main_v66 : FVec F S160000 .f32 := mulf main_v65 main_v61
  let main_v67 : FVec F S160000 .f32 := subf main_v64 main_v66
  let main_cst_16 : FVec F S_ .f32 := constant S_ .f32 0x3F800000#32
  let main_v68 : FVec F S160000 .f32 := broadcastInDim S160000 ![] bcast_S_S160000 main_cst_16
  let main_v69 : FVec F S160000 .f32 := addf main_v67 main_v68
  let main_cst_17 : FVec F S_ .f32 := constant S_ .f32 0x40000000#32
  let main_v70 : FVec F S160000 .f32 := broadcastInDim S160000 ![] bcast_S_S160000 main_cst_17
  let main_v71 : FVec F S160000 .f32 := mulf main_v70 main_v61
  let main_v72 : FVec F S160000 .f32 := subf main_v62 main_v71
  let main_v73 : FVec F S160000 .f32 := addf main_v72 main_v60
  let main_cst_18 : FVec F S_ .f32 := constant S_ .f32 0xC0000000#32
  let main_v74 : FVec F S160000 .f32 := broadcastInDim S160000 ![] bcast_S_S160000 main_cst_18
  fn_part4 (F := F) main_arg0 main_arg1 main_arg2 main_arg3 main_arg4 main_arg5 main_arg6 main_v49 main_v54 main_v61 main_v62 main_v69 main_v73 main_v74

def fn_part2 {F : FTy → Type} [FloatOps F] (main_arg0 : FVec F S160000 .f32) (main_arg1 : IVec S160000 32) (main_arg2 : FVec F S1024x36 .f32) (main_arg3 : FVec F S1024x36 .f32) (main_arg4 : FVec F S4x4x12x32 .f32) (main_arg5 : FVec F S4x4x32x32 .f32) (main_arg6 : FVec F S4x4x32x32 .f32) (main_v13 : FVec F S160000x36 .f32) (main_v34 : FVec F S160000x36 .f32) (main_v37 : FVec F S160000x36 .f32) (main_cst_7 : FVec F S_ .f32) : IVec S_ 1 :=
  let main_v38 : FVec F S160000x36 .f32 := broadcastInDim S160000x36 ![] bcast_S_S160000x36 main_cst_7
  let main_v39 : FVec F S160000x36 .f32 := mulf main_v38 main_v37
  let main_v40 : IVec S160000x36 1 := cmpf .oeq main_v13 main_v39
  let main_v41 : FVec F S160000x1 .f32 := broadcastInDim S160000x1 ![0] bcast_S160000_S160000x1_0 main_arg0
  let main_v42 : FVec F S160000x1 .f32 := Host.negf main_v41
  let main_cst_8 : FVec F S_ .f32 := constant S_ .f32 0x40A00000#32
  let main_v43 : FVec F S160000x1 .f32 := broadcastInDim S160000x1 ![] bcast_S_S160000x1 main_cst_8
  let main_v44 : FVec F S160000x1 .f32 := Host.divf main_v42 main_v43
  let main_v45 : FVec F S160000x1 .f32 := Host.exp main_v44
  let main_v46 : FVec F S160000x36 .f32 := Host.negf main_v34
  let main_v47 : FVec F S160000x36 .f32 := fn_where (F := F) main_v40 main_v34 main_v46
  let main_v48 : FVec F S160000x36 .f32 := broadcastInDim S160000x36 ![0, 1] bcast_S160000x1_S160000x36_0_1 main_v45
  let main_v49 : FVec F S160000x36 .f32 := mulf main_v48 main_v47
  let main_cst_9 : FVec F S_ .f32 := constant S_ .f32 0x3BA0280A#32
  let main_v50 : FVec F S160000 .f32 := broadcastInDim S160000 ![] bcast_S_S160000 main_cst_9
  let main_v51 : FVec F S160000 .f32 := Host.divf main_arg0 main_v50
  let main_v52 : FVec F S160000 .f32 := Host.floor main_v51
  let main_v53 : IVec S160000 32 := fptosi 32 main_v52
  let main_c_10 : IVec S_ 32 := constantI S_ 32 0#32
  let main_c_11 : IVec S_ 32 := constantI S_ 32 1022#32
  let main_v54 : IVec S160000 32 := fn_clip (F := F) main_v53 main_c_10 main_c_11
  let main_v55 : FVec F S160000 .f32 := sitofp .f32 main_v54
  let main_cst_12 : FVec F S_ .f32 := constant S_ .f32 0x3BA0280A#32
  let main_v56 : FVec F S160000 .f32 := broadcastInDim S160000 ![] bcast_S_S160000 main_cst_12
  fn_part3 (F := F) main_arg0 main_arg1 main_arg2 main_arg3 main_arg4 main_arg5 main_arg6 main_v49 main_v54 main_v55 main_v56

def fn_part1 {F : FTy → Type} [FloatOps F] (main_arg0 : FVec F S160000 .f32) (main_arg1 : IVec S160000 32) (main_arg2 : FVec F S1024x36 .f32) (main_arg3 : FVec F S1024x36 .f32) (main_arg4 : FVec F S4x4x12x32 .f32) (main_arg5 : FVec F S4x4x32x32 .f32) (main_arg6 : FVec F S4x4x32x32 .f32) (main_v13 : FVec F S160000x36 .f32) (main_v15 : FVec F S160000x36 .f32) (main_v17 : FVec F S160000x36 .f32) (main_v18 : FVec F S160000x36 .f32) : IVec S_ 1 :=
  let main_v19 : FVec F S160000x36 .f32 := subf main_v18 main_v17
  let main_v20 : FVec F S160000x36 .f32 := mulf main_v15 main_v15
  let main_cst_3 : FVec F S_ .f32 := constant S_ .f32 0x4081DE81#32
  let main_v21 : FVec F S160000x36 .f32 := broadcastInDim S160000x36 ![] bcast_S_S160000x36 main_cst_3
  let main_v22 : FVec F S160000x36 .f32 := mulf main_v21 main_v20
  let main_v23 : FVec F S160000x36 .f32 := addf main_v19 main_v22
  let main_v24 : FVec F S160000x36 .f32 := mulf main_v15 main_v15
  let main_v25 : FVec F S160000x36 .f32 := mulf main_v24 main_v15
  let main_cst_4 : FVec F S_ .f32 := constant S_ .f32 0x3FAA7AEE#32
  let main_v26 : FVec F S160000x36 .f32 := broadcastInDim S160000x36 ![] bcast_S_S160000x36 main_cst_4
  let main_v27 : FVec F S160000x36 .f32 := mulf main_v26 main_v25
  let main_v28 : FVec F S160000x36 .f32 := subf main_v23 main_v27
  let main_v29 : FVec F S160000x36 .f32 := mulf main_v15 main_v15
  let main_v30 : FVec F S160000x36 .f32 := mulf main_v29 main_v15
  let main_v31 : FVec F S160000x36 .f32 := mulf main_v30 main_v15
  let main_cst_5 : FVec F S_ .f32 := constant S_ .f32 0x3E60F646#32
  let main_v32 : FVec F S160000x36 .f32 := broadcastInDim S160000x36 ![] bcast_S_S160000x36 main_cst_5
  let main_v33 : FVec F S160000x36 .f32 := mulf main_v32 main_v31
  let main_v34 : FVec F S160000x36 .f32 := addf main_v28 main_v33
  let main_cst_6 : FVec F S_ .f32 := constant S_ .f32 0x40000000#32
  let main_v35 : FVec F S160000x36 .f32 := broadcastInDim S160000x36 ![] bcast_S_S160000x36 main_cst_6
  let main_v36 : FVec F S160000x36 .f32 := Host.divf main_v13 main_v35
  let main_v37 : FVec F S160000x36 .f32 := Host.floor main_v36
  let main_cst_7 : FVec F S_ .f32 := constant S_ .f32 0x40000000#32
  fn_part2 (F := F) main_arg0 main_arg1 main_arg2 main_arg3 main_arg4 main_arg5 main_arg6 main_v13 main_v34 main_v37 main_cst_7

def fn {F : FTy → Type} [FloatOps F] (main_arg0 : FVec F S160000 .f32) (main_arg1 : IVec S160000 32) (main_arg2 : FVec F S1024x36 .f32) (main_arg3 : FVec F S1024x36 .f32) (main_arg4 : FVec F S4x4x12x32 .f32) (main_arg5 : FVec F S4x4x32x32 .f32) (main_arg6 : FVec F S4x4x32x32 .f32) (main_arg7 : FVec F S4x4x32x12 .f32) : IVec S_ 1 :=
  let main_v0 : IVec S36 32 := iotaInDim S36 32 0
  let main_c : IVec S_ 32 := constantI S_ 32 1#32
  let main_v1 : IVec S36 32 := broadcastInDim S36 ![] bcast_S_S36 main_c
  let main_v2 : IVec S36 32 := addi main_v1 main_v0
  let main_v3 : FVec F S36 .f32 := sitofp .f32 main_v2
  let main_v4 : FVec F S1x36 .f32 := broadcastInDim S1x36 ![1] bcast_S36_S1x36_1 main_v3
  let main_v5 : FVec F S160000x1 .f32 := broadcastInDim S160000x1 ![0] bcast_S160000_S160000x1_0 main_arg0
  let main_v6 : FVec F S160000x36 .f32 := broadcastInDim S160000x36 ![0, 1] bcast_S1x36_S160000x36_0_1 main_v4
  let main_v7 : FVec F S160000x36 .f32 := broadcastInDim S160000x36 ![0, 1] bcast_S160000x1_S160000x36_0_1 main_v5
  let main_v8 : FVec F S160000x36 .f32 := mulf main_v6 main_v7
  let main_cst : FVec F S_ .f32 := constant S_ .f32 0x40A00000#32
  let main_v9 : FVec F S160000x36 .f32 := broadcastInDim S160000x36 ![] bcast_S_S160000x36 main_cst
  let main_v10 : FVec F S160000x36 .f32 := Host.divf main_v8 main_v9
  let main_cst_0 : FVec F S_ .f32 := constant S_ .f32 0x3F000000#32
  let main_v11 : FVec F S160000x36 .f32 := broadcastInDim S160000x36 ![] bcast_S_S160000x36 main_cst_0
  let main_v12 : FVec F S160000x36 .f32 := addf main_v10 main_v11
  let main_v13 : FVec F S160000x36 .f32 := Host.floor main_v12
  let main_v14 : FVec F S160000x36 .f32 := subf main_v10 main_v13
  let main_v15 : FVec F S160000x36 .f32 := mulf main_v14 main_v14
  let main_cst_1 : FVec F S_ .f32 := constant S_ .f32 0x409DE9D3#32
  let main_v16 : FVec F S160000x36 .f32 := broadcastInDim S160000x36 ![] bcast_S_S160000x36 main_cst_1
  let main_v17 : FVec F S160000x36 .f32 := mulf main_v16 main_v15
  let main_cst_2 : FVec F S_ .f32 := constant S_ .f32 0x3F7FFFFF#32
  let main_v18 : FVec F S160000x36 .f32 := broadcastInDim S160000x36 ![] bcast_S_S160000x36 main_cst_2
  fn_part1 (F := F) main_arg0 main_arg1 main_arg2 main_arg3 main_arg4 main_arg5 main_arg6 main_v13 main_v15 main_v17 main_v18
-- ==== Kernel.lean ====
abbrev S160000 : Shape := ⟨1, ![160000]⟩
abbrev S1024x36 : Shape := ⟨2, ![1024, 36]⟩
abbrev S4x4x12x32 : Shape := ⟨4, ![4, 4, 12, 32]⟩
abbrev S4x4x32x32 : Shape := ⟨4, ![4, 4, 32, 32]⟩
abbrev S4x4x32x12 : Shape := ⟨4, ![4, 4, 32, 12]⟩
abbrev S4x4 : Shape := ⟨2, ![4, 4]⟩
abbrev S_ : Shape := ⟨0, ![]⟩
abbrev S1x4x12x32 : Shape := ⟨4, ![1, 4, 12, 32]⟩
abbrev S4x12x32 : Shape := ⟨3, ![4, 12, 32]⟩
abbrev S12x4x32 : Shape := ⟨3, ![12, 4, 32]⟩
abbrev S12x128 : Shape := ⟨2, ![12, 128]⟩
abbrev S36x128 : Shape := ⟨2, ![36, 128]⟩
abbrev S1 : Shape := ⟨1, ![1]⟩
abbrev S128x36 : Shape := ⟨2, ![128, 36]⟩
abbrev S1x4x32x32 : Shape := ⟨4, ![1, 4, 32, 32]⟩
abbrev S4x32x32 : Shape := ⟨3, ![4, 32, 32]⟩
abbrev S128x32 : Shape := ⟨2, ![128, 32]⟩
abbrev S1x4x32x12 : Shape := ⟨4, ![1, 4, 32, 12]⟩
abbrev S4x32x12 : Shape := ⟨3, ![4, 32, 12]⟩
abbrev S128x12 : Shape := ⟨2, ![128, 12]⟩
abbrev S1x4x10x32 : Shape := ⟨4, ![1, 4, 10, 32]⟩
abbrev S4x10x32 : Shape := ⟨3, ![4, 10, 32]⟩
abbrev S10x4x32 : Shape := ⟨3, ![10, 4, 32]⟩
abbrev S10x128 : Shape := ⟨2, ![10, 128]⟩
abbrev S1x4x32x10 : Shape := ⟨4, ![1, 4, 32, 10]⟩
abbrev S4x32x10 : Shape := ⟨3, ![4, 32, 10]⟩
abbrev S128x10 : Shape := ⟨2, ![128, 10]⟩
abbrev S1x4x8x32 : Shape := ⟨4, ![1, 4, 8, 32]⟩
abbrev S4x8x32 : Shape := ⟨3, ![4, 8, 32]⟩
abbrev S8x4x32 : Shape := ⟨3, ![8, 4, 32]⟩
abbrev S8x128 : Shape := ⟨2, ![8, 128]⟩
abbrev S1x4x32x8 : Shape := ⟨4, ![1, 4, 32, 8]⟩
abbrev S4x32x8 : Shape := ⟨3, ![4, 32, 8]⟩
abbrev S128x8 : Shape := ⟨2, ![128, 8]⟩
abbrev S1x4x6x32 : Shape := ⟨4, ![1, 4, 6, 32]⟩
abbrev S4x6x32 : Shape := ⟨3, ![4, 6, 32]⟩
abbrev S6x4x32 : Shape := ⟨3, ![6, 4, 32]⟩
abbrev S6x128 : Shape := ⟨2, ![6, 128]⟩
abbrev S1x4x32x6 : Shape := ⟨4, ![1, 4, 32, 6]⟩
abbrev S4x32x6 : Shape := ⟨3, ![4, 32, 6]⟩
abbrev S128x6 : Shape := ⟨2, ![128, 6]⟩
abbrev S1x128x36 : Shape := ⟨3, ![1, 128, 36]⟩
abbrev S4x128x36 : Shape := ⟨3, ![4, 128, 36]⟩
abbrev S1x128x32 : Shape := ⟨3, ![1, 128, 32]⟩
abbrev S4x128x32 : Shape := ⟨3, ![4, 128, 32]⟩
abbrev S1x12x128 : Shape := ⟨3, ![1, 12, 128]⟩
abbrev S4x12x128 : Shape := ⟨3, ![4, 12, 128]⟩
abbrev S50x1x3200 : Shape := ⟨3, ![50, 1, 3200]⟩
abbrev S12x160000 : Shape := ⟨2, ![12, 160000]⟩
abbrev S10x160000 : Shape := ⟨2, ![10, 160000]⟩
abbrev S8x160000 : Shape := ⟨2, ![8, 160000]⟩
abbrev S6x160000 : Shape := ⟨2, ![6, 160000]⟩
abbrev S160000x12 : Shape := ⟨2, ![160000, 12]⟩
abbrev S160000x10 : Shape := ⟨2, ![160000, 10]⟩
abbrev S160000x8 : Shape := ⟨2, ![160000, 8]⟩
abbrev S160000x6 : Shape := ⟨2, ![160000, 6]⟩
abbrev S1x1x3200 : Shape := ⟨3, ![1, 1, 3200]⟩
abbrev S12x3200 : Shape := ⟨2, ![12, 3200]⟩
abbrev S10x3200 : Shape := ⟨2, ![10, 3200]⟩
abbrev S8x3200 : Shape := ⟨2, ![8, 3200]⟩
abbrev S6x3200 : Shape := ⟨2, ![6, 3200]⟩
abbrev S1x3200 : Shape := ⟨2, ![1, 3200]⟩
abbrev S36x1 : Shape := ⟨2, ![36, 1]⟩
abbrev S36x3200 : Shape := ⟨2, ![36, 3200]⟩
abbrev S128x1 : Shape := ⟨2, ![128, 1]⟩
abbrev S128x3200 : Shape := ⟨2, ![128, 3200]⟩
abbrev S32x3200 : Shape := ⟨2, ![32, 3200]⟩

abbrev nBuf : Space → Nat
  | .hbm => 181
  | .vmem => 16
  | .smem => 0
  | _ => 0

abbrev hbmTy0_0 (i : Nat) : BufTy := match i % 128 with
  | 0 => ⟨S160000, .f32⟩
  | 1 => ⟨S160000, .i32⟩
  | 2 => ⟨S1024x36, .f32⟩
  | 3 => ⟨S1024x36, .f32⟩
  | 4 => ⟨S4x4x12x32, .f32⟩
  | 5 => ⟨S4x4x32x32, .f32⟩
  | 6 => ⟨S4x4x32x32, .f32⟩
  | 7 => ⟨S4x4x32x12, .f32⟩
  | 8 => ⟨S4x4, .i32⟩
  | 9 => ⟨S4x4, .i32⟩
  | 10 => ⟨S_, .i32⟩
  | 11 => ⟨S4x4, .i32⟩
  | 12 => ⟨S4x4, .i32⟩
  | 13 => ⟨S4x4, .i1⟩
  | 14 => ⟨S4x4, .f32⟩
  | 15 => ⟨S1x4x12x32, .f32⟩
  | 16 => ⟨S4x12x32, .f32⟩
  | 17 => ⟨S12x4x32, .f32⟩
  | 18 => ⟨S12x128, .f32⟩
  | 19 => ⟨S_, .f32⟩
  | 20 => ⟨S36x128, .f32⟩
  | 21 => ⟨S_, .i32⟩
  | 22 => ⟨S1, .i32⟩
  | 23 => ⟨S36x128, .f32⟩
  | 24 => ⟨S128x36, .f32⟩
  | 25 => ⟨S_, .f32⟩
  | 26 => ⟨S128x36, .f32⟩
  | 27 => ⟨S128x36, .f32⟩
  | 28 => ⟨S1x4x32x32, .f32⟩
  | 29 => ⟨S4x32x32, .f32⟩
  | 30 => ⟨S4x32x32, .f32⟩
  | 31 => ⟨S128x32, .f32⟩
  | 32 => ⟨S_, .f32⟩
  | 33 => ⟨S128x32, .f32⟩
  | 34 => ⟨S128x32, .f32⟩
  | 35 => ⟨S1x4x32x32, .f32⟩
  | 36 => ⟨S4x32x32, .f32⟩
  | 37 => ⟨S4x32x32, .f32⟩
  | 38 => ⟨S128x32, .f32⟩
  | 39 => ⟨S_, .f32⟩
  | 40 => ⟨S128x32, .f32⟩
  | 41 => ⟨S128x32, .f32⟩
  | 42 => ⟨S1x4x32x12, .f32⟩
  | 43 => ⟨S4x32x12, .f32⟩
  | 44 => ⟨S128x12, .f32⟩
  | 45 => ⟨S12x128, .f32⟩
  | 46 => ⟨S_, .i32⟩
  | 47 => ⟨S_, .f32⟩
  | 48 => ⟨S12x128, .f32⟩
  | 49 => ⟨S1x4x10x32, .f32⟩
  | 50 => ⟨S4x10x32, .f32⟩
  | 51 => ⟨S10x4x32, .f32⟩
  | 52 => ⟨S10x128, .f32⟩
  | 53 => ⟨S_, .f32⟩
  | 54 => ⟨S36x128, .f32⟩
  | 55 => ⟨S_, .i32⟩
  | 56 => ⟨S1, .i32⟩
  | 57 => ⟨S36x128, .f32⟩
  | 58 => ⟨S128x36, .f32⟩
  | 59 => ⟨S_, .f32⟩
  | 60 => ⟨S128x36, .f32⟩
  | 61 => ⟨S128x36, .f32⟩
  | 62 => ⟨S1x4x32x32, .f32⟩
  | 63 => ⟨S4x32x32, .f32⟩
  | 64 => ⟨S4x32x32, .f32⟩
  | 65 => ⟨S128x32, .f32⟩
  | 66 => ⟨S_, .f32⟩
  | 67 => ⟨S128x32, .f32⟩
  | 68 => ⟨S128x32, .f32⟩
  | 69 => ⟨S1x4x32x32, .f32⟩
  | 70 => ⟨S4x32x32, .f32⟩
  | 71 => ⟨S4x32x32, .f32⟩
  | 72 => ⟨S128x32, .f32⟩
  | 73 => ⟨S_, .f32⟩
  | 74 => ⟨S128x32, .f32⟩
  | 75 => ⟨S128x32, .f32⟩
  | 76 => ⟨S1x4x32x10, .f32⟩
  | 77 => ⟨S4x32x10, .f32⟩
  | 78 => ⟨S128x10, .f32⟩
  | 79 => ⟨S10x128, .f32⟩
  | 80 => ⟨S_, .i32⟩
  | 81 => ⟨S_, .f32⟩
  | 82 => ⟨S12x128, .f32⟩
  | 83 => ⟨S1x4x8x32, .f32⟩
  | 84 => ⟨S4x8x32, .f32⟩
  | 85 => ⟨S8x4x32, .f32⟩
  | 86 => ⟨S8x128, .f32⟩
  | 87 => ⟨S_, .f32⟩
  | 88 => ⟨S36x128, .f32⟩
  | 89 => ⟨S_, .i32⟩
  | 90 => ⟨S1, .i32⟩
  | 91 => ⟨S36x128, .f32⟩
  | 92 => ⟨S128x36, .f32⟩
  | 93 => ⟨S_, .f32⟩
  | 94 => ⟨S128x36, .f32⟩
  | 95 => ⟨S128x36, .f32⟩
  | 96 => ⟨S1x4x32x32, .f32⟩
  | 97 => ⟨S4x32x32, .f32⟩
  | 98 => ⟨S4x32x32, .f32⟩
  | 99 => ⟨S128x32, .f32⟩
  | 100 => ⟨S_, .f32⟩
  | 101 => ⟨S128x32, .f32⟩
  | 102 => ⟨S128x32, .f32⟩
  | 103 => ⟨S1x4x32x32, .f32⟩
  | 104 => ⟨S4x32x32, .f32⟩
  | 105 => ⟨S4x32x32, .f32⟩
  | 106 => ⟨S128x32, .f32⟩
  | 107 => ⟨S_, .f32⟩
  | 108 => ⟨S128x32, .f32⟩
  | 109 => ⟨S128x32, .f32⟩
  | 110 => ⟨S1x4x32x8, .f32⟩
  | 111 => ⟨S4x32x8, .f32⟩
  | 112 => ⟨S128x8, .f32⟩
  | 113 => ⟨S8x128, .f32⟩
  | 114 => ⟨S_, .i32⟩
  | 115 => ⟨S_, .f32⟩
  | 116 => ⟨S12x128, .f32⟩
  | 117 => ⟨S1x4x6x32, .f32⟩
  | 118 => ⟨S4x6x32, .f32⟩
  | 119 => ⟨S6x4x32, .f32⟩
  | 120 => ⟨S6x128, .f32⟩
  | 121 => ⟨S_, .f32⟩
  | 122 => ⟨S36x128, .f32⟩
  | 123 => ⟨S_, .i32⟩
  | 124 => ⟨S1, .i32⟩
  | 125 => ⟨S36x128, .f32⟩
  | 126 => ⟨S128x36, .f32⟩
  | 127 => ⟨S_, .f32⟩
  | _ => ⟨S160000, .f32⟩

abbrev hbmTy0_1 (i : Nat) : BufTy := match i % 128 with
  | 0 => ⟨S128x36, .f32⟩
  | 1 => ⟨S128x36, .f32⟩
  | 2 => ⟨S1x4x32x32, .f32⟩
  | 3 => ⟨S4x32x32, .f32⟩
  | 4 => ⟨S4x32x32, .f32⟩
  | 5 => ⟨S128x32, .f32⟩
  | 6 => ⟨S_, .f32⟩
  | 7 => ⟨S128x32, .f32⟩
  | 8 => ⟨S128x32, .f32⟩
  | 9 => ⟨S1x4x32x32, .f32⟩
  | 10 => ⟨S4x32x32, .f32⟩
  | 11 => ⟨S4x32x32, .f32⟩
  | 12 => ⟨S128x32, .f32⟩
  | 13 => ⟨S_, .f32⟩
  | 14 => ⟨S128x32, .f32⟩
  | 15 => ⟨S128x32, .f32⟩
  | 16 => ⟨S1x4x32x6, .f32⟩
  | 17 => ⟨S4x32x6, .f32⟩
  | 18 => ⟨S128x6, .f32⟩
  | 19 => ⟨S6x128, .f32⟩
  | 20 => ⟨S_, .i32⟩
  | 21 => ⟨S_, .f32⟩
  | 22 => ⟨S12x128, .f32⟩
  | 23 => ⟨S1x128x36, .f32⟩
  | 24 => ⟨S1x128x36, .f32⟩
  | 25 => ⟨S1x128x36, .f32⟩
  | 26 => ⟨S1x128x36, .f32⟩
  | 27 => ⟨S4x128x36, .f32⟩
  | 28 => ⟨S1x128x32, .f32⟩
  | 29 => ⟨S1x128x32, .f32⟩
  | 30 => ⟨S1x128x32, .f32⟩
  | 31 => ⟨S1x128x32, .f32⟩
  | 32 => ⟨S4x128x32, .f32⟩
  | 33 => ⟨S1x128x32, .f32⟩
  | 34 => ⟨S1x128x32, .f32⟩
  | 35 => ⟨S1x128x32, .f32⟩
  | 36 => ⟨S1x128x32, .f32⟩
  | 37 => ⟨S4x128x32, .f32⟩
  | 38 => ⟨S1x12x128, .f32⟩
  | 39 => ⟨S1x12x128, .f32⟩
  | 40 => ⟨S1x12x128, .f32⟩
  | 41 => ⟨S1x12x128, .f32⟩
  | 42 => ⟨S4x12x128, .f32⟩
  | 43 => ⟨S50x1x3200, .f32⟩
  | 44 => ⟨S50x1x3200, .i32⟩
  | 45 => ⟨S12x160000, .f32⟩
  | 46 => ⟨S10x160000, .f32⟩
  | 47 => ⟨S8x160000, .f32⟩
  | 48 => ⟨S6x160000, .f32⟩
  | 49 => ⟨S160000x12, .f32⟩
  | 50 => ⟨S160000x10, .f32⟩
  | 51 => ⟨S160000x8, .f32⟩
  | 52 => ⟨S160000x6, .f32⟩
  | _ => ⟨S160000, .f32⟩

abbrev hbmTy (i : Nat) : BufTy := match i / 128 with
  | 0 => hbmTy0_0 i
  | 1 => hbmTy0_1 i
  | _ => ⟨S160000, .f32⟩

abbrev bufTy : (tb : Table) → Fin (tcTables nBuf tb) → BufTy
  | .hbm, ⟨i, _⟩ => hbmTy i
  | .local _ .vmem, ⟨0, _⟩ => ⟨S1x1x3200, .f32⟩
  | .local _ .vmem, ⟨1, _⟩ => ⟨S1x1x3200, .f32⟩
  | .local _ .vmem, ⟨2, _⟩ => ⟨S1x1x3200, .i32⟩
  | .local _ .vmem, ⟨3, _⟩ => ⟨S1x1x3200, .i32⟩
  | .local _ .vmem, ⟨4, _⟩ => ⟨S4x128x36, .f32⟩
  | .local _ .vmem, ⟨5, _⟩ => ⟨S4x128x32, .f32⟩
  | .local _ .vmem, ⟨6, _⟩ => ⟨S4x128x32, .f32⟩
  | .local _ .vmem, ⟨7, _⟩ => ⟨S4x12x128, .f32⟩
  | .local _ .vmem, ⟨8, _⟩ => ⟨S12x3200, .f32⟩
  | .local _ .vmem, ⟨9, _⟩ => ⟨S12x3200, .f32⟩
  | .local _ .vmem, ⟨10, _⟩ => ⟨S10x3200, .f32⟩
  | .local _ .vmem, ⟨11, _⟩ => ⟨S10x3200, .f32⟩
  | .local _ .vmem, ⟨12, _⟩ => ⟨S8x3200, .f32⟩
  | .local _ .vmem, ⟨13, _⟩ => ⟨S8x3200, .f32⟩
  | .local _ .vmem, ⟨14, _⟩ => ⟨S6x3200, .f32⟩
  | .local _ .vmem, ⟨15, _⟩ => ⟨S6x3200, .f32⟩
  | _, _ => ⟨S160000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_c : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_cst : Ref sig .tc := ⟨.hbm, 19, rfl⟩
abbrev main_call0_v10 : Ref sig .tc := ⟨.hbm, 20, rfl⟩
abbrev main_call0_c_0 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst_1 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_cst_2 : Ref sig .tc := ⟨.hbm, 32, rfl⟩
abbrev main_call0_v20 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_cst_3 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_v30 : Ref sig .tc := ⟨.hbm, 44, rfl⟩
abbrev main_call0_v31 : Ref sig .tc := ⟨.hbm, 45, rfl⟩
abbrev main_call0_c_4 : Ref sig .tc := ⟨.hbm, 46, rfl⟩
abbrev main_call0_call0_v0 : Ref sig .tc := ⟨.hbm, 47, rfl⟩
abbrev main_call0_v32 : Ref sig .tc := ⟨.hbm, 48, rfl⟩
abbrev main_call0_v33 : Ref sig .tc := ⟨.hbm, 49, rfl⟩
abbrev main_call0_v34 : Ref sig .tc := ⟨.hbm, 50, rfl⟩
abbrev main_call0_v35 : Ref sig .tc := ⟨.hbm, 51, rfl⟩
abbrev main_call0_v36 : Ref sig .tc := ⟨.hbm, 52, rfl⟩
abbrev main_call0_cst_5 : Ref sig .tc := ⟨.hbm, 53, rfl⟩
abbrev main_call0_v37 : Ref sig .tc := ⟨.hbm, 54, rfl⟩
abbrev main_call0_c_6 : Ref sig .tc := ⟨.hbm, 55, rfl⟩
abbrev main_call0_v38 : Ref sig .tc := ⟨.hbm, 56, rfl⟩
abbrev main_call0_v39 : Ref sig .tc := ⟨.hbm, 57, rfl⟩
abbrev main_call0_v40 : Ref sig .tc := ⟨.hbm, 58, rfl⟩
abbrev main_call0_cst_7 : Ref sig .tc := ⟨.hbm, 59, rfl⟩
abbrev main_call0_v41 : Ref sig .tc := ⟨.hbm, 60, rfl⟩
abbrev main_call0_v42 : Ref sig .tc := ⟨.hbm, 61, rfl⟩
abbrev main_call0_v43 : Ref sig .tc := ⟨.hbm, 62, rfl⟩
abbrev main_call0_v44 : Ref sig .tc := ⟨.hbm, 63, rfl⟩
abbrev main_call0_v45 : Ref sig .tc := ⟨.hbm, 64, rfl⟩
abbrev main_call0_v46 : Ref sig .tc := ⟨.hbm, 65, rfl⟩
abbrev main_call0_cst_8 : Ref sig .tc := ⟨.hbm, 66, rfl⟩
abbrev main_call0_v47 : Ref sig .tc := ⟨.hbm, 67, rfl⟩
abbrev main_call0_v48 : Ref sig .tc := ⟨.hbm, 68, rfl⟩
abbrev main_call0_v49 : Ref sig .tc := ⟨.hbm, 69, rfl⟩
abbrev main_call0_v50 : Ref sig .tc := ⟨.hbm, 70, rfl⟩
abbrev main_call0_v51 : Ref sig .tc := ⟨.hbm, 71, rfl⟩
abbrev main_call0_v52 : Ref sig .tc := ⟨.hbm, 72, rfl⟩
abbrev main_call0_cst_9 : Ref sig .tc := ⟨.hbm, 73, rfl⟩
abbrev main_call0_v53 : Ref sig .tc := ⟨.hbm, 74, rfl⟩
abbrev main_call0_v54 : Ref sig .tc := ⟨.hbm, 75, rfl⟩
abbrev main_call0_v55 : Ref sig .tc := ⟨.hbm, 76, rfl⟩
abbrev main_call0_v56 : Ref sig .tc := ⟨.hbm, 77, rfl⟩
abbrev main_call0_v57 : Ref sig .tc := ⟨.hbm, 78, rfl⟩
abbrev main_call0_v58 : Ref sig .tc := ⟨.hbm, 79, rfl⟩
abbrev main_call0_c_10 : Ref sig .tc := ⟨.hbm, 80, rfl⟩
abbrev main_call0_call1_v0 : Ref sig .tc := ⟨.hbm, 81, rfl⟩
abbrev main_call0_v59 : Ref sig .tc := ⟨.hbm, 82, rfl⟩
abbrev main_call0_v60 : Ref sig .tc := ⟨.hbm, 83, rfl⟩
abbrev main_call0_v61 : Ref sig .tc := ⟨.hbm, 84, rfl⟩
abbrev main_call0_v62 : Ref sig .tc := ⟨.hbm, 85, rfl⟩
abbrev main_call0_v63 : Ref sig .tc := ⟨.hbm, 86, rfl⟩
abbrev main_call0_cst_11 : Ref sig .tc := ⟨.hbm, 87, rfl⟩
abbrev main_call0_v64 : Ref sig .tc := ⟨.hbm, 88, rfl⟩
abbrev main_call0_c_12 : Ref sig .tc := ⟨.hbm, 89, rfl⟩
abbrev main_call0_v65 : Ref sig .tc := ⟨.hbm, 90, rfl⟩
abbrev main_call0_v66 : Ref sig .tc := ⟨.hbm, 91, rfl⟩
abbrev main_call0_v67 : Ref sig .tc := ⟨.hbm, 92, rfl⟩
abbrev main_call0_cst_13 : Ref sig .tc := ⟨.hbm, 93, rfl⟩
abbrev main_call0_v68 : Ref sig .tc := ⟨.hbm, 94, rfl⟩
abbrev main_call0_v69 : Ref sig .tc := ⟨.hbm, 95, rfl⟩
abbrev main_call0_v70 : Ref sig .tc := ⟨.hbm, 96, rfl⟩
abbrev main_call0_v71 : Ref sig .tc := ⟨.hbm, 97, rfl⟩
abbrev main_call0_v72 : Ref sig .tc := ⟨.hbm, 98, rfl⟩
abbrev main_call0_v73 : Ref sig .tc := ⟨.hbm, 99, rfl⟩
abbrev main_call0_cst_14 : Ref sig .tc := ⟨.hbm, 100, rfl⟩
abbrev main_call0_v74 : Ref sig .tc := ⟨.hbm, 101, rfl⟩
abbrev main_call0_v75 : Ref sig .tc := ⟨.hbm, 102, rfl⟩
abbrev main_call0_v76 : Ref sig .tc := ⟨.hbm, 103, rfl⟩
abbrev main_call0_v77 : Ref sig .tc := ⟨.hbm, 104, rfl⟩
abbrev main_call0_v78 : Ref sig .tc := ⟨.hbm, 105, rfl⟩
abbrev main_call0_v79 : Ref sig .tc := ⟨.hbm, 106, rfl⟩
abbrev main_call0_cst_15 : Ref sig .tc := ⟨.hbm, 107, rfl⟩
abbrev main_call0_v80 : Ref sig .tc := ⟨.hbm, 108, rfl⟩
abbrev main_call0_v81 : Ref sig .tc := ⟨.hbm, 109, rfl⟩
abbrev main_call0_v82 : Ref sig .tc := ⟨.hbm, 110, rfl⟩
abbrev main_call0_v83 : Ref sig .tc := ⟨.hbm, 111, rfl⟩
abbrev main_call0_v84 : Ref sig .tc := ⟨.hbm, 112, rfl⟩
abbrev main_call0_v85 : Ref sig .tc := ⟨.hbm, 113, rfl⟩
abbrev main_call0_c_16 : Ref sig .tc := ⟨.hbm, 114, rfl⟩
abbrev main_call0_call2_v0 : Ref sig .tc := ⟨.hbm, 115, rfl⟩
abbrev main_call0_v86 : Ref sig .tc := ⟨.hbm, 116, rfl⟩
abbrev main_call0_v87 : Ref sig .tc := ⟨.hbm, 117, rfl⟩
abbrev main_call0_v88 : Ref sig .tc := ⟨.hbm, 118, rfl⟩
abbrev main_call0_v89 : Ref sig .tc := ⟨.hbm, 119, rfl⟩
abbrev main_call0_v90 : Ref sig .tc := ⟨.hbm, 120, rfl⟩
abbrev main_call0_cst_17 : Ref sig .tc := ⟨.hbm, 121, rfl⟩
abbrev main_call0_v91 : Ref sig .tc := ⟨.hbm, 122, rfl⟩
abbrev main_call0_c_18 : Ref sig .tc := ⟨.hbm, 123, rfl⟩
abbrev main_call0_v92 : Ref sig .tc := ⟨.hbm, 124, rfl⟩
abbrev main_call0_v93 : Ref sig .tc := ⟨.hbm, 125, rfl⟩
abbrev main_call0_v94 : Ref sig .tc := ⟨.hbm, 126, rfl⟩
abbrev main_call0_cst_19 : Ref sig .tc := ⟨.hbm, 127, rfl⟩
abbrev main_call0_v95 : Ref sig .tc := ⟨.hbm, 128, rfl⟩
abbrev main_call0_v96 : Ref sig .tc := ⟨.hbm, 129, rfl⟩
abbrev main_call0_v97 : Ref sig .tc := ⟨.hbm, 130, rfl⟩
abbrev main_call0_v98 : Ref sig .tc := ⟨.hbm, 131, rfl⟩
abbrev main_call0_v99 : Ref sig .tc := ⟨.hbm, 132, rfl⟩
abbrev main_call0_v100 : Ref sig .tc := ⟨.hbm, 133, rfl⟩
abbrev main_call0_cst_20 : Ref sig .tc := ⟨.hbm, 134, rfl⟩
abbrev main_call0_v101 : Ref sig .tc := ⟨.hbm, 135, rfl⟩
abbrev main_call0_v102 : Ref sig .tc := ⟨.hbm, 136, rfl⟩
abbrev main_call0_v103 : Ref sig .tc := ⟨.hbm, 137, rfl⟩
abbrev main_call0_v104 : Ref sig .tc := ⟨.hbm, 138, rfl⟩
abbrev main_call0_v105 : Ref sig .tc := ⟨.hbm, 139, rfl⟩
abbrev main_call0_v106 : Ref sig .tc := ⟨.hbm, 140, rfl⟩
abbrev main_call0_cst_21 : Ref sig .tc := ⟨.hbm, 141, rfl⟩
abbrev main_call0_v107 : Ref sig .tc := ⟨.hbm, 142, rfl⟩
abbrev main_call0_v108 : Ref sig .tc := ⟨.hbm, 143, rfl⟩
abbrev main_call0_v109 : Ref sig .tc := ⟨.hbm, 144, rfl⟩
abbrev main_call0_v110 : Ref sig .tc := ⟨.hbm, 145, rfl⟩
abbrev main_call0_v111 : Ref sig .tc := ⟨.hbm, 146, rfl⟩
abbrev main_call0_v112 : Ref sig .tc := ⟨.hbm, 147, rfl⟩
abbrev main_call0_c_22 : Ref sig .tc := ⟨.hbm, 148, rfl⟩
abbrev main_call0_call3_v0 : Ref sig .tc := ⟨.hbm, 149, rfl⟩
abbrev main_call0_v113 : Ref sig .tc := ⟨.hbm, 150, rfl⟩
abbrev main_call0_v114 : Ref sig .tc := ⟨.hbm, 151, rfl⟩
abbrev main_call0_v115 : Ref sig .tc := ⟨.hbm, 152, rfl⟩
abbrev main_call0_v116 : Ref sig .tc := ⟨.hbm, 153, rfl⟩
abbrev main_call0_v117 : Ref sig .tc := ⟨.hbm, 154, rfl⟩
abbrev main_call0_v118 : Ref sig .tc := ⟨.hbm, 155, rfl⟩
abbrev main_call0_v119 : Ref sig .tc := ⟨.hbm, 156, rfl⟩
abbrev main_call0_v120 : Ref sig .tc := ⟨.hbm, 157, rfl⟩
abbrev main_call0_v121 : Ref sig .tc := ⟨.hbm, 158, rfl⟩
abbrev main_call0_v122 : Ref sig .tc := ⟨.hbm, 159, rfl⟩
abbrev main_call0_v123 : Ref sig .tc := ⟨.hbm, 160, rfl⟩
abbrev main_call0_v124 : Ref sig .tc := ⟨.hbm, 161, rfl⟩
abbrev main_call0_v125 : Ref sig .tc := ⟨.hbm, 162, rfl⟩
abbrev main_call0_v126 : Ref sig .tc := ⟨.hbm, 163, rfl⟩
abbrev main_call0_v127 : Ref sig .tc := ⟨.hbm, 164, rfl⟩
abbrev main_call0_v128 : Ref sig .tc := ⟨.hbm, 165, rfl⟩
abbrev main_call0_v129 : Ref sig .tc := ⟨.hbm, 166, rfl⟩
abbrev main_call0_v130 : Ref sig .tc := ⟨.hbm, 167, rfl⟩
abbrev main_call0_v131 : Ref sig .tc := ⟨.hbm, 168, rfl⟩
abbrev main_call0_v132 : Ref sig .tc := ⟨.hbm, 169, rfl⟩
abbrev main_call0_v133 : Ref sig .tc := ⟨.hbm, 170, rfl⟩
abbrev main_call0_v134 : Ref sig .tc := ⟨.hbm, 171, rfl⟩
abbrev main_call0_v135 : Ref sig .tc := ⟨.hbm, 172, rfl⟩
abbrev main_call0_v136_0 : Ref sig .tc := ⟨.hbm, 173, rfl⟩
abbrev main_call0_v136_1 : Ref sig .tc := ⟨.hbm, 174, rfl⟩
abbrev main_call0_v136_2 : Ref sig .tc := ⟨.hbm, 175, rfl⟩
abbrev main_call0_v136_3 : Ref sig .tc := ⟨.hbm, 176, rfl⟩
abbrev main_v0_0 : Ref sig .tc := ⟨.hbm, 177, rfl⟩
abbrev main_v0_1 : Ref sig .tc := ⟨.hbm, 178, rfl⟩
abbrev main_v0_2 : Ref sig .tc := ⟨.hbm, 179, rfl⟩
abbrev main_v0_3 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x36 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S12x3200 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10x3200 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x3200 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S6x3200 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "inv_cut" => some ((1 / 5 : ℝ) : EReal)
  | "neg_inv_cut" => some ((-1 / 5 : ℝ) : EReal)
  | _ => none
-- ==== ReferenceIdeal.lean ====
abbrev S160000 : Shape := ⟨1, ![160000]⟩
abbrev S1024x36 : Shape := ⟨2, ![1024, 36]⟩
abbrev S4x4x12x32 : Shape := ⟨4, ![4, 4, 12, 32]⟩
abbrev S4x4x32x32 : Shape := ⟨4, ![4, 4, 32, 32]⟩
abbrev S4x4x32x12 : Shape := ⟨4, ![4, 4, 32, 12]⟩
abbrev S_ : Shape := ⟨0, ![]⟩
abbrev S160000x1 : Shape := ⟨2, ![160000, 1]⟩
abbrev S1 : Shape := ⟨1, ![1]⟩
abbrev S1x1 : Shape := ⟨2, ![1, 1]⟩
abbrev S160000x36 : Shape := ⟨2, ![160000, 36]⟩
abbrev S160000x12 : Shape := ⟨2, ![160000, 12]⟩
abbrev S1x4x12x32 : Shape := ⟨4, ![1, 4, 12, 32]⟩
abbrev S4x12x32 : Shape := ⟨3, ![4, 12, 32]⟩
abbrev S160000x12x32 : Shape := ⟨3, ![160000, 12, 32]⟩
abbrev S1x4x32x32 : Shape := ⟨4, ![1, 4, 32, 32]⟩
abbrev S4x32x32 : Shape := ⟨3, ![4, 32, 32]⟩
abbrev S160000x32x32 : Shape := ⟨3, ![160000, 32, 32]⟩
abbrev S1x4x32x12 : Shape := ⟨4, ![1, 4, 32, 12]⟩
abbrev S4x32x12 : Shape := ⟨3, ![4, 32, 12]⟩
abbrev S160000x32x12 : Shape := ⟨3, ![160000, 32, 12]⟩
abbrev S160000x32 : Shape := ⟨2, ![160000, 32]⟩
abbrev S160000x10 : Shape := ⟨2, ![160000, 10]⟩
abbrev S1x4x10x32 : Shape := ⟨4, ![1, 4, 10, 32]⟩
abbrev S4x10x32 : Shape := ⟨3, ![4, 10, 32]⟩
abbrev S160000x10x32 : Shape := ⟨3, ![160000, 10, 32]⟩
abbrev S1x4x32x10 : Shape := ⟨4, ![1, 4, 32, 10]⟩
abbrev S4x32x10 : Shape := ⟨3, ![4, 32, 10]⟩
abbrev S160000x32x10 : Shape := ⟨3, ![160000, 32, 10]⟩
abbrev S160000x8 : Shape := ⟨2, ![160000, 8]⟩
abbrev S1x4x8x32 : Shape := ⟨4, ![1, 4, 8, 32]⟩
abbrev S4x8x32 : Shape := ⟨3, ![4, 8, 32]⟩
abbrev S160000x8x32 : Shape := ⟨3, ![160000, 8, 32]⟩
abbrev S1x4x32x8 : Shape := ⟨4, ![1, 4, 32, 8]⟩
abbrev S4x32x8 : Shape := ⟨3, ![4, 32, 8]⟩
abbrev S160000x32x8 : Shape := ⟨3, ![160000, 32, 8]⟩
abbrev S160000x6 : Shape := ⟨2, ![160000, 6]⟩
abbrev S1x4x6x32 : Shape := ⟨4, ![1, 4, 6, 32]⟩
abbrev S4x6x32 : Shape := ⟨3, ![4, 6, 32]⟩
abbrev S160000x6x32 : Shape := ⟨3, ![160000, 6, 32]⟩
abbrev S1x4x32x6 : Shape := ⟨4, ![1, 4, 32, 6]⟩
abbrev S4x32x6 : Shape := ⟨3, ![4, 32, 6]⟩
abbrev S160000x32x6 : Shape := ⟨3, ![160000, 32, 6]⟩

abbrev nBuf : Space → Nat
  | .hbm => 701
  | .vmem => 0
  | .smem => 0
  | _ => 0

abbrev hbmTy0_0 (i : Nat) : BufTy := match i % 128 with
  | 0 => ⟨S160000, .f32⟩
  | 1 => ⟨S160000, .i32⟩
  | 2 => ⟨S1024x36, .f32⟩
  | 3 => ⟨S1024x36, .f32⟩
  | 4 => ⟨S4x4x12x32, .f32⟩
  | 5 => ⟨S4x4x32x32, .f32⟩
  | 6 => ⟨S4x4x32x32, .f32⟩
  | 7 => ⟨S4x4x32x12, .f32⟩
  | 8 => ⟨S_, .f32⟩
  | 9 => ⟨S160000, .f32⟩
  | 10 => ⟨S160000, .f32⟩
  | 11 => ⟨S160000, .f32⟩
  | 12 => ⟨S160000, .i32⟩
  | 13 => ⟨S_, .i32⟩
  | 14 => ⟨S_, .i32⟩
  | 15 => ⟨S_, .i32⟩
  | 16 => ⟨S160000, .i32⟩
  | 17 => ⟨S160000, .i32⟩
  | 18 => ⟨S_, .i32⟩
  | 19 => ⟨S160000, .i32⟩
  | 20 => ⟨S160000, .i32⟩
  | 21 => ⟨S160000, .f32⟩
  | 22 => ⟨S_, .f32⟩
  | 23 => ⟨S160000, .f32⟩
  | 24 => ⟨S160000, .f32⟩
  | 25 => ⟨S160000, .f32⟩
  | 26 => ⟨S_, .f32⟩
  | 27 => ⟨S160000, .f32⟩
  | 28 => ⟨S160000, .f32⟩
  | 29 => ⟨S160000, .f32⟩
  | 30 => ⟨S160000, .f32⟩
  | 31 => ⟨S_, .f32⟩
  | 32 => ⟨S160000, .f32⟩
  | 33 => ⟨S160000, .f32⟩
  | 34 => ⟨S_, .f32⟩
  | 35 => ⟨S160000, .f32⟩
  | 36 => ⟨S160000, .f32⟩
  | 37 => ⟨S160000, .f32⟩
  | 38 => ⟨S_, .f32⟩
  | 39 => ⟨S160000, .f32⟩
  | 40 => ⟨S160000, .f32⟩
  | 41 => ⟨S_, .f32⟩
  | 42 => ⟨S160000, .f32⟩
  | 43 => ⟨S160000, .f32⟩
  | 44 => ⟨S160000, .f32⟩
  | 45 => ⟨S160000, .f32⟩
  | 46 => ⟨S_, .f32⟩
  | 47 => ⟨S160000, .f32⟩
  | 48 => ⟨S160000, .f32⟩
  | 49 => ⟨S_, .f32⟩
  | 50 => ⟨S160000, .f32⟩
  | 51 => ⟨S160000, .f32⟩
  | 52 => ⟨S160000, .f32⟩
  | 53 => ⟨S160000, .f32⟩
  | 54 => ⟨S_, .i32⟩
  | 55 => ⟨S160000, .i32⟩
  | 56 => ⟨S160000, .i1⟩
  | 57 => ⟨S_, .i32⟩
  | 58 => ⟨S160000, .i32⟩
  | 59 => ⟨S160000, .i32⟩
  | 60 => ⟨S160000, .i32⟩
  | 61 => ⟨S160000x1, .i32⟩
  | 62 => ⟨S1, .i32⟩
  | 63 => ⟨S_, .i32⟩
  | 64 => ⟨S160000x1, .i32⟩
  | 65 => ⟨S160000x1, .i1⟩
  | 66 => ⟨S1x1, .i32⟩
  | 67 => ⟨S160000x1, .i32⟩
  | 68 => ⟨S160000x1, .i1⟩
  | 69 => ⟨S160000x1, .i1⟩
  | 70 => ⟨S_, .i1⟩
  | 71 => ⟨S160000, .i1⟩
  | 72 => ⟨S160000x36, .f32⟩
  | 73 => ⟨S160000x36, .i1⟩
  | 74 => ⟨S_, .f32⟩
  | 75 => ⟨S160000x36, .f32⟩
  | 76 => ⟨S160000x36, .f32⟩
  | 77 => ⟨S_, .i32⟩
  | 78 => ⟨S160000, .i32⟩
  | 79 => ⟨S160000, .i32⟩
  | 80 => ⟨S_, .i32⟩
  | 81 => ⟨S160000, .i32⟩
  | 82 => ⟨S160000, .i1⟩
  | 83 => ⟨S_, .i32⟩
  | 84 => ⟨S160000, .i32⟩
  | 85 => ⟨S160000, .i32⟩
  | 86 => ⟨S160000, .i32⟩
  | 87 => ⟨S160000x1, .i32⟩
  | 88 => ⟨S1, .i32⟩
  | 89 => ⟨S_, .i32⟩
  | 90 => ⟨S160000x1, .i32⟩
  | 91 => ⟨S160000x1, .i1⟩
  | 92 => ⟨S1x1, .i32⟩
  | 93 => ⟨S160000x1, .i32⟩
  | 94 => ⟨S160000x1, .i1⟩
  | 95 => ⟨S160000x1, .i1⟩
  | 96 => ⟨S_, .i1⟩
  | 97 => ⟨S160000, .i1⟩
  | 98 => ⟨S160000x36, .f32⟩
  | 99 => ⟨S160000x36, .i1⟩
  | 100 => ⟨S_, .f32⟩
  | 101 => ⟨S160000x36, .f32⟩
  | 102 => ⟨S160000x36, .f32⟩
  | 103 => ⟨S_, .i32⟩
  | 104 => ⟨S160000, .i32⟩
  | 105 => ⟨S160000, .i1⟩
  | 106 => ⟨S_, .i32⟩
  | 107 => ⟨S160000, .i32⟩
  | 108 => ⟨S160000, .i32⟩
  | 109 => ⟨S160000, .i32⟩
  | 110 => ⟨S160000x1, .i32⟩
  | 111 => ⟨S1, .i32⟩
  | 112 => ⟨S_, .i32⟩
  | 113 => ⟨S160000x1, .i32⟩
  | 114 => ⟨S160000x1, .i1⟩
  | 115 => ⟨S1x1, .i32⟩
  | 116 => ⟨S160000x1, .i32⟩
  | 117 => ⟨S160000x1, .i1⟩
  | 118 => ⟨S160000x1, .i1⟩
  | 119 => ⟨S_, .i1⟩
  | 120 => ⟨S160000, .i1⟩
  | 121 => ⟨S160000x36, .f32⟩
  | 122 => ⟨S160000x36, .i1⟩
  | 123 => ⟨S_, .f32⟩
  | 124 => ⟨S160000x36, .f32⟩
  | 125 => ⟨S160000x36, .f32⟩
  | 126 => ⟨S_, .i32⟩
  | 127 => ⟨S160000, .i32⟩
  | _ => ⟨S160000, .f32⟩

abbrev hbmTy0_1 (i : Nat) : BufTy := match i % 128 with
  | 0 => ⟨S160000, .i32⟩
  | 1 => ⟨S_, .i32⟩
  | 2 => ⟨S160000, .i32⟩
  | 3 => ⟨S160000, .i1⟩
  | 4 => ⟨S_, .i32⟩
  | 5 => ⟨S160000, .i32⟩
  | 6 => ⟨S160000, .i32⟩
  | 7 => ⟨S160000, .i32⟩
  | 8 => ⟨S160000x1, .i32⟩
  | 9 => ⟨S1, .i32⟩
  | 10 => ⟨S_, .i32⟩
  | 11 => ⟨S160000x1, .i32⟩
  | 12 => ⟨S160000x1, .i1⟩
  | 13 => ⟨S1x1, .i32⟩
  | 14 => ⟨S160000x1, .i32⟩
  | 15 => ⟨S160000x1, .i1⟩
  | 16 => ⟨S160000x1, .i1⟩
  | 17 => ⟨S_, .i1⟩
  | 18 => ⟨S160000, .i1⟩
  | 19 => ⟨S160000x36, .f32⟩
  | 20 => ⟨S160000x36, .i1⟩
  | 21 => ⟨S_, .f32⟩
  | 22 => ⟨S160000x36, .f32⟩
  | 23 => ⟨S160000x36, .f32⟩
  | 24 => ⟨S160000x1, .f32⟩
  | 25 => ⟨S160000x36, .f32⟩
  | 26 => ⟨S160000x36, .f32⟩
  | 27 => ⟨S160000x1, .f32⟩
  | 28 => ⟨S_, .f32⟩
  | 29 => ⟨S160000x1, .f32⟩
  | 30 => ⟨S160000x1, .f32⟩
  | 31 => ⟨S160000x36, .f32⟩
  | 32 => ⟨S160000x36, .f32⟩
  | 33 => ⟨S160000x36, .f32⟩
  | 34 => ⟨S160000x1, .f32⟩
  | 35 => ⟨S160000x36, .f32⟩
  | 36 => ⟨S160000x36, .f32⟩
  | 37 => ⟨S160000x36, .f32⟩
  | 38 => ⟨S160000x1, .f32⟩
  | 39 => ⟨S_, .f32⟩
  | 40 => ⟨S160000x1, .f32⟩
  | 41 => ⟨S160000x1, .f32⟩
  | 42 => ⟨S160000x36, .f32⟩
  | 43 => ⟨S160000x36, .f32⟩
  | 44 => ⟨S160000x36, .f32⟩
  | 45 => ⟨S160000x12, .f32⟩
  | 46 => ⟨S1x4x12x32, .f32⟩
  | 47 => ⟨S4x12x32, .f32⟩
  | 48 => ⟨S_, .i32⟩
  | 49 => ⟨S160000, .i32⟩
  | 50 => ⟨S160000, .i1⟩
  | 51 => ⟨S_, .i32⟩
  | 52 => ⟨S160000, .i32⟩
  | 53 => ⟨S160000, .i32⟩
  | 54 => ⟨S160000, .i32⟩
  | 55 => ⟨S160000x1, .i32⟩
  | 56 => ⟨S1, .i32⟩
  | 57 => ⟨S_, .i32⟩
  | 58 => ⟨S160000x1, .i32⟩
  | 59 => ⟨S160000x1, .i1⟩
  | 60 => ⟨S1x1, .i32⟩
  | 61 => ⟨S160000x1, .i32⟩
  | 62 => ⟨S160000x1, .i1⟩
  | 63 => ⟨S160000x1, .i1⟩
  | 64 => ⟨S_, .i1⟩
  | 65 => ⟨S160000, .i1⟩
  | 66 => ⟨S160000x12x32, .f32⟩
  | 67 => ⟨S160000x12x32, .i1⟩
  | 68 => ⟨S_, .f32⟩
  | 69 => ⟨S160000x12x32, .f32⟩
  | 70 => ⟨S160000x12x32, .f32⟩
  | 71 => ⟨S1x4x32x32, .f32⟩
  | 72 => ⟨S4x32x32, .f32⟩
  | 73 => ⟨S_, .i32⟩
  | 74 => ⟨S160000, .i32⟩
  | 75 => ⟨S160000, .i1⟩
  | 76 => ⟨S_, .i32⟩
  | 77 => ⟨S160000, .i32⟩
  | 78 => ⟨S160000, .i32⟩
  | 79 => ⟨S160000, .i32⟩
  | 80 => ⟨S160000x1, .i32⟩
  | 81 => ⟨S1, .i32⟩
  | 82 => ⟨S_, .i32⟩
  | 83 => ⟨S160000x1, .i32⟩
  | 84 => ⟨S160000x1, .i1⟩
  | 85 => ⟨S1x1, .i32⟩
  | 86 => ⟨S160000x1, .i32⟩
  | 87 => ⟨S160000x1, .i1⟩
  | 88 => ⟨S160000x1, .i1⟩
  | 89 => ⟨S_, .i1⟩
  | 90 => ⟨S160000, .i1⟩
  | 91 => ⟨S160000x32x32, .f32⟩
  | 92 => ⟨S160000x32x32, .i1⟩
  | 93 => ⟨S_, .f32⟩
  | 94 => ⟨S160000x32x32, .f32⟩
  | 95 => ⟨S160000x32x32, .f32⟩
  | 96 => ⟨S1x4x32x32, .f32⟩
  | 97 => ⟨S4x32x32, .f32⟩
  | 98 => ⟨S_, .i32⟩
  | 99 => ⟨S160000, .i32⟩
  | 100 => ⟨S160000, .i1⟩
  | 101 => ⟨S_, .i32⟩
  | 102 => ⟨S160000, .i32⟩
  | 103 => ⟨S160000, .i32⟩
  | 104 => ⟨S160000, .i32⟩
  | 105 => ⟨S160000x1, .i32⟩
  | 106 => ⟨S1, .i32⟩
  | 107 => ⟨S_, .i32⟩
  | 108 => ⟨S160000x1, .i32⟩
  | 109 => ⟨S160000x1, .i1⟩
  | 110 => ⟨S1x1, .i32⟩
  | 111 => ⟨S160000x1, .i32⟩
  | 112 => ⟨S160000x1, .i1⟩
  | 113 => ⟨S160000x1, .i1⟩
  | 114 => ⟨S_, .i1⟩
  | 115 => ⟨S160000, .i1⟩
  | 116 => ⟨S160000x32x32, .f32⟩
  | 117 => ⟨S160000x32x32, .i1⟩
  | 118 => ⟨S_, .f32⟩
  | 119 => ⟨S160000x32x32, .f32⟩
  | 120 => ⟨S160000x32x32, .f32⟩
  | 121 => ⟨S1x4x32x12, .f32⟩
  | 122 => ⟨S4x32x12, .f32⟩
  | 123 => ⟨S_, .i32⟩
  | 124 => ⟨S160000, .i32⟩
  | 125 => ⟨S160000, .i1⟩
  | 126 => ⟨S_, .i32⟩
  | 127 => ⟨S160000, .i32⟩
  | _ => ⟨S160000, .f32⟩

abbrev hbmTy0_2 (i : Nat) : BufTy := match i % 128 with
  | 0 => ⟨S160000, .i32⟩
  | 1 => ⟨S160000, .i32⟩
  | 2 => ⟨S160000x1, .i32⟩
  | 3 => ⟨S1, .i32⟩
  | 4 => ⟨S_, .i32⟩
  | 5 => ⟨S160000x1, .i32⟩
  | 6 => ⟨S160000x1, .i1⟩
  | 7 => ⟨S1x1, .i32⟩
  | 8 => ⟨S160000x1, .i32⟩
  | 9 => ⟨S160000x1, .i1⟩
  | 10 => ⟨S160000x1, .i1⟩
  | 11 => ⟨S_, .i1⟩
  | 12 => ⟨S160000, .i1⟩
  | 13 => ⟨S160000x32x12, .f32⟩
  | 14 => ⟨S160000x32x12, .i1⟩
  | 15 => ⟨S_, .f32⟩
  | 16 => ⟨S160000x32x12, .f32⟩
  | 17 => ⟨S160000x32x12, .f32⟩
  | 18 => ⟨S160000x32, .f32⟩
  | 19 => ⟨S160000x32, .f32⟩
  | 20 => ⟨S160000x32, .f32⟩
  | 21 => ⟨S_, .f32⟩
  | 22 => ⟨S160000x32, .f32⟩
  | 23 => ⟨S160000x32, .f32⟩
  | 24 => ⟨S_, .f32⟩
  | 25 => ⟨S160000x32, .f32⟩
  | 26 => ⟨S160000x32, .f32⟩
  | 27 => ⟨S160000x32, .f32⟩
  | 28 => ⟨S160000x32, .f32⟩
  | 29 => ⟨S160000x32, .f32⟩
  | 30 => ⟨S160000x32, .f32⟩
  | 31 => ⟨S_, .f32⟩
  | 32 => ⟨S160000x32, .f32⟩
  | 33 => ⟨S160000x32, .f32⟩
  | 34 => ⟨S_, .f32⟩
  | 35 => ⟨S160000x32, .f32⟩
  | 36 => ⟨S160000x32, .f32⟩
  | 37 => ⟨S160000x32, .f32⟩
  | 38 => ⟨S160000x32, .f32⟩
  | 39 => ⟨S160000x32, .f32⟩
  | 40 => ⟨S160000x32, .f32⟩
  | 41 => ⟨S_, .f32⟩
  | 42 => ⟨S160000x32, .f32⟩
  | 43 => ⟨S160000x32, .f32⟩
  | 44 => ⟨S_, .f32⟩
  | 45 => ⟨S160000x32, .f32⟩
  | 46 => ⟨S160000x32, .f32⟩
  | 47 => ⟨S160000x32, .f32⟩
  | 48 => ⟨S160000x12, .f32⟩
  | 49 => ⟨S160000x10, .f32⟩
  | 50 => ⟨S1x4x10x32, .f32⟩
  | 51 => ⟨S4x10x32, .f32⟩
  | 52 => ⟨S_, .i32⟩
  | 53 => ⟨S160000, .i32⟩
  | 54 => ⟨S160000, .i1⟩
  | 55 => ⟨S_, .i32⟩
  | 56 => ⟨S160000, .i32⟩
  | 57 => ⟨S160000, .i32⟩
  | 58 => ⟨S160000, .i32⟩
  | 59 => ⟨S160000x1, .i32⟩
  | 60 => ⟨S1, .i32⟩
  | 61 => ⟨S_, .i32⟩
  | 62 => ⟨S160000x1, .i32⟩
  | 63 => ⟨S160000x1, .i1⟩
  | 64 => ⟨S1x1, .i32⟩
  | 65 => ⟨S160000x1, .i32⟩
  | 66 => ⟨S160000x1, .i1⟩
  | 67 => ⟨S160000x1, .i1⟩
  | 68 => ⟨S_, .i1⟩
  | 69 => ⟨S160000, .i1⟩
  | 70 => ⟨S160000x10x32, .f32⟩
  | 71 => ⟨S160000x10x32, .i1⟩
  | 72 => ⟨S_, .f32⟩
  | 73 => ⟨S160000x10x32, .f32⟩
  | 74 => ⟨S160000x10x32, .f32⟩
  | 75 => ⟨S1x4x32x32, .f32⟩
  | 76 => ⟨S4x32x32, .f32⟩
  | 77 => ⟨S_, .i32⟩
  | 78 => ⟨S160000, .i32⟩
  | 79 => ⟨S160000, .i1⟩
  | 80 => ⟨S_, .i32⟩
  | 81 => ⟨S160000, .i32⟩
  | 82 => ⟨S160000, .i32⟩
  | 83 => ⟨S160000, .i32⟩
  | 84 => ⟨S160000x1, .i32⟩
  | 85 => ⟨S1, .i32⟩
  | 86 => ⟨S_, .i32⟩
  | 87 => ⟨S160000x1, .i32⟩
  | 88 => ⟨S160000x1, .i1⟩
  | 89 => ⟨S1x1, .i32⟩
  | 90 => ⟨S160000x1, .i32⟩
  | 91 => ⟨S160000x1, .i1⟩
  | 92 => ⟨S160000x1, .i1⟩
  | 93 => ⟨S_, .i1⟩
  | 94 => ⟨S160000, .i1⟩
  | 95 => ⟨S160000x32x32, .f32⟩
  | 96 => ⟨S160000x32x32, .i1⟩
  | 97 => ⟨S_, .f32⟩
  | 98 => ⟨S160000x32x32, .f32⟩
  | 99 => ⟨S160000x32x32, .f32⟩
  | 100 => ⟨S1x4x32x32, .f32⟩
  | 101 => ⟨S4x32x32, .f32⟩
  | 102 => ⟨S_, .i32⟩
  | 103 => ⟨S160000, .i32⟩
  | 104 => ⟨S160000, .i1⟩
  | 105 => ⟨S_, .i32⟩
  | 106 => ⟨S160000, .i32⟩
  | 107 => ⟨S160000, .i32⟩
  | 108 => ⟨S160000, .i32⟩
  | 109 => ⟨S160000x1, .i32⟩
  | 110 => ⟨S1, .i32⟩
  | 111 => ⟨S_, .i32⟩
  | 112 => ⟨S160000x1, .i32⟩
  | 113 => ⟨S160000x1, .i1⟩
  | 114 => ⟨S1x1, .i32⟩
  | 115 => ⟨S160000x1, .i32⟩
  | 116 => ⟨S160000x1, .i1⟩
  | 117 => ⟨S160000x1, .i1⟩
  | 118 => ⟨S_, .i1⟩
  | 119 => ⟨S160000, .i1⟩
  | 120 => ⟨S160000x32x32, .f32⟩
  | 121 => ⟨S160000x32x32, .i1⟩
  | 122 => ⟨S_, .f32⟩
  | 123 => ⟨S160000x32x32, .f32⟩
  | 124 => ⟨S160000x32x32, .f32⟩
  | 125 => ⟨S1x4x32x10, .f32⟩
  | 126 => ⟨S4x32x10, .f32⟩
  | 127 => ⟨S_, .i32⟩
  | _ => ⟨S160000, .f32⟩

abbrev hbmTy0_3 (i : Nat) : BufTy := match i % 128 with
  | 0 => ⟨S160000, .i32⟩
  | 1 => ⟨S160000, .i1⟩
  | 2 => ⟨S_, .i32⟩
  | 3 => ⟨S160000, .i32⟩
  | 4 => ⟨S160000, .i32⟩
  | 5 => ⟨S160000, .i32⟩
  | 6 => ⟨S160000x1, .i32⟩
  | 7 => ⟨S1, .i32⟩
  | 8 => ⟨S_, .i32⟩
  | 9 => ⟨S160000x1, .i32⟩
  | 10 => ⟨S160000x1, .i1⟩
  | 11 => ⟨S1x1, .i32⟩
  | 12 => ⟨S160000x1, .i32⟩
  | 13 => ⟨S160000x1, .i1⟩
  | 14 => ⟨S160000x1, .i1⟩
  | 15 => ⟨S_, .i1⟩
  | 16 => ⟨S160000, .i1⟩
  | 17 => ⟨S160000x32x10, .f32⟩
  | 18 => ⟨S160000x32x10, .i1⟩
  | 19 => ⟨S_, .f32⟩
  | 20 => ⟨S160000x32x10, .f32⟩
  | 21 => ⟨S160000x32x10, .f32⟩
  | 22 => ⟨S160000x32, .f32⟩
  | 23 => ⟨S160000x32, .f32⟩
  | 24 => ⟨S160000x32, .f32⟩
  | 25 => ⟨S_, .f32⟩
  | 26 => ⟨S160000x32, .f32⟩
  | 27 => ⟨S160000x32, .f32⟩
  | 28 => ⟨S_, .f32⟩
  | 29 => ⟨S160000x32, .f32⟩
  | 30 => ⟨S160000x32, .f32⟩
  | 31 => ⟨S160000x32, .f32⟩
  | 32 => ⟨S160000x32, .f32⟩
  | 33 => ⟨S160000x32, .f32⟩
  | 34 => ⟨S160000x32, .f32⟩
  | 35 => ⟨S_, .f32⟩
  | 36 => ⟨S160000x32, .f32⟩
  | 37 => ⟨S160000x32, .f32⟩
  | 38 => ⟨S_, .f32⟩
  | 39 => ⟨S160000x32, .f32⟩
  | 40 => ⟨S160000x32, .f32⟩
  | 41 => ⟨S160000x32, .f32⟩
  | 42 => ⟨S160000x32, .f32⟩
  | 43 => ⟨S160000x32, .f32⟩
  | 44 => ⟨S160000x32, .f32⟩
  | 45 => ⟨S_, .f32⟩
  | 46 => ⟨S160000x32, .f32⟩
  | 47 => ⟨S160000x32, .f32⟩
  | 48 => ⟨S_, .f32⟩
  | 49 => ⟨S160000x32, .f32⟩
  | 50 => ⟨S160000x32, .f32⟩
  | 51 => ⟨S160000x32, .f32⟩
  | 52 => ⟨S160000x10, .f32⟩
  | 53 => ⟨S160000x8, .f32⟩
  | 54 => ⟨S1x4x8x32, .f32⟩
  | 55 => ⟨S4x8x32, .f32⟩
  | 56 => ⟨S_, .i32⟩
  | 57 => ⟨S160000, .i32⟩
  | 58 => ⟨S160000, .i1⟩
  | 59 => ⟨S_, .i32⟩
  | 60 => ⟨S160000, .i32⟩
  | 61 => ⟨S160000, .i32⟩
  | 62 => ⟨S160000, .i32⟩
  | 63 => ⟨S160000x1, .i32⟩
  | 64 => ⟨S1, .i32⟩
  | 65 => ⟨S_, .i32⟩
  | 66 => ⟨S160000x1, .i32⟩
  | 67 => ⟨S160000x1, .i1⟩
  | 68 => ⟨S1x1, .i32⟩
  | 69 => ⟨S160000x1, .i32⟩
  | 70 => ⟨S160000x1, .i1⟩
  | 71 => ⟨S160000x1, .i1⟩
  | 72 => ⟨S_, .i1⟩
  | 73 => ⟨S160000, .i1⟩
  | 74 => ⟨S160000x8x32, .f32⟩
  | 75 => ⟨S160000x8x32, .i1⟩
  | 76 => ⟨S_, .f32⟩
  | 77 => ⟨S160000x8x32, .f32⟩
  | 78 => ⟨S160000x8x32, .f32⟩
  | 79 => ⟨S1x4x32x32, .f32⟩
  | 80 => ⟨S4x32x32, .f32⟩
  | 81 => ⟨S_, .i32⟩
  | 82 => ⟨S160000, .i32⟩
  | 83 => ⟨S160000, .i1⟩
  | 84 => ⟨S_, .i32⟩
  | 85 => ⟨S160000, .i32⟩
  | 86 => ⟨S160000, .i32⟩
  | 87 => ⟨S160000, .i32⟩
  | 88 => ⟨S160000x1, .i32⟩
  | 89 => ⟨S1, .i32⟩
  | 90 => ⟨S_, .i32⟩
  | 91 => ⟨S160000x1, .i32⟩
  | 92 => ⟨S160000x1, .i1⟩
  | 93 => ⟨S1x1, .i32⟩
  | 94 => ⟨S160000x1, .i32⟩
  | 95 => ⟨S160000x1, .i1⟩
  | 96 => ⟨S160000x1, .i1⟩
  | 97 => ⟨S_, .i1⟩
  | 98 => ⟨S160000, .i1⟩
  | 99 => ⟨S160000x32x32, .f32⟩
  | 100 => ⟨S160000x32x32, .i1⟩
  | 101 => ⟨S_, .f32⟩
  | 102 => ⟨S160000x32x32, .f32⟩
  | 103 => ⟨S160000x32x32, .f32⟩
  | 104 => ⟨S1x4x32x32, .f32⟩
  | 105 => ⟨S4x32x32, .f32⟩
  | 106 => ⟨S_, .i32⟩
  | 107 => ⟨S160000, .i32⟩
  | 108 => ⟨S160000, .i1⟩
  | 109 => ⟨S_, .i32⟩
  | 110 => ⟨S160000, .i32⟩
  | 111 => ⟨S160000, .i32⟩
  | 112 => ⟨S160000, .i32⟩
  | 113 => ⟨S160000x1, .i32⟩
  | 114 => ⟨S1, .i32⟩
  | 115 => ⟨S_, .i32⟩
  | 116 => ⟨S160000x1, .i32⟩
  | 117 => ⟨S160000x1, .i1⟩
  | 118 => ⟨S1x1, .i32⟩
  | 119 => ⟨S160000x1, .i32⟩
  | 120 => ⟨S160000x1, .i1⟩
  | 121 => ⟨S160000x1, .i1⟩
  | 122 => ⟨S_, .i1⟩
  | 123 => ⟨S160000, .i1⟩
  | 124 => ⟨S160000x32x32, .f32⟩
  | 125 => ⟨S160000x32x32, .i1⟩
  | 126 => ⟨S_, .f32⟩
  | 127 => ⟨S160000x32x32, .f32⟩
  | _ => ⟨S160000, .f32⟩

abbrev hbmTy0_4 (i : Nat) : BufTy := match i % 128 with
  | 0 => ⟨S160000x32x32, .f32⟩
  | 1 => ⟨S1x4x32x8, .f32⟩
  | 2 => ⟨S4x32x8, .f32⟩
  | 3 => ⟨S_, .i32⟩
  | 4 => ⟨S160000, .i32⟩
  | 5 => ⟨S160000, .i1⟩
  | 6 => ⟨S_, .i32⟩
  | 7 => ⟨S160000, .i32⟩
  | 8 => ⟨S160000, .i32⟩
  | 9 => ⟨S160000, .i32⟩
  | 10 => ⟨S160000x1, .i32⟩
  | 11 => ⟨S1, .i32⟩
  | 12 => ⟨S_, .i32⟩
  | 13 => ⟨S160000x1, .i32⟩
  | 14 => ⟨S160000x1, .i1⟩
  | 15 => ⟨S1x1, .i32⟩
  | 16 => ⟨S160000x1, .i32⟩
  | 17 => ⟨S160000x1, .i1⟩
  | 18 => ⟨S160000x1, .i1⟩
  | 19 => ⟨S_, .i1⟩
  | 20 => ⟨S160000, .i1⟩
  | 21 => ⟨S160000x32x8, .f32⟩
  | 22 => ⟨S160000x32x8, .i1⟩
  | 23 => ⟨S_, .f32⟩
  | 24 => ⟨S160000x32x8, .f32⟩
  | 25 => ⟨S160000x32x8, .f32⟩
  | 26 => ⟨S160000x32, .f32⟩
  | 27 => ⟨S160000x32, .f32⟩
  | 28 => ⟨S160000x32, .f32⟩
  | 29 => ⟨S_, .f32⟩
  | 30 => ⟨S160000x32, .f32⟩
  | 31 => ⟨S160000x32, .f32⟩
  | 32 => ⟨S_, .f32⟩
  | 33 => ⟨S160000x32, .f32⟩
  | 34 => ⟨S160000x32, .f32⟩
  | 35 => ⟨S160000x32, .f32⟩
  | 36 => ⟨S160000x32, .f32⟩
  | 37 => ⟨S160000x32, .f32⟩
  | 38 => ⟨S160000x32, .f32⟩
  | 39 => ⟨S_, .f32⟩
  | 40 => ⟨S160000x32, .f32⟩
  | 41 => ⟨S160000x32, .f32⟩
  | 42 => ⟨S_, .f32⟩
  | 43 => ⟨S160000x32, .f32⟩
  | 44 => ⟨S160000x32, .f32⟩
  | 45 => ⟨S160000x32, .f32⟩
  | 46 => ⟨S160000x32, .f32⟩
  | 47 => ⟨S160000x32, .f32⟩
  | 48 => ⟨S160000x32, .f32⟩
  | 49 => ⟨S_, .f32⟩
  | 50 => ⟨S160000x32, .f32⟩
  | 51 => ⟨S160000x32, .f32⟩
  | 52 => ⟨S_, .f32⟩
  | 53 => ⟨S160000x32, .f32⟩
  | 54 => ⟨S160000x32, .f32⟩
  | 55 => ⟨S160000x32, .f32⟩
  | 56 => ⟨S160000x8, .f32⟩
  | 57 => ⟨S160000x6, .f32⟩
  | 58 => ⟨S1x4x6x32, .f32⟩
  | 59 => ⟨S4x6x32, .f32⟩
  | 60 => ⟨S_, .i32⟩
  | 61 => ⟨S160000, .i32⟩
  | 62 => ⟨S160000, .i1⟩
  | 63 => ⟨S_, .i32⟩
  | 64 => ⟨S160000, .i32⟩
  | 65 => ⟨S160000, .i32⟩
  | 66 => ⟨S160000, .i32⟩
  | 67 => ⟨S160000x1, .i32⟩
  | 68 => ⟨S1, .i32⟩
  | 69 => ⟨S_, .i32⟩
  | 70 => ⟨S160000x1, .i32⟩
  | 71 => ⟨S160000x1, .i1⟩
  | 72 => ⟨S1x1, .i32⟩
  | 73 => ⟨S160000x1, .i32⟩
  | 74 => ⟨S160000x1, .i1⟩
  | 75 => ⟨S160000x1, .i1⟩
  | 76 => ⟨S_, .i1⟩
  | 77 => ⟨S160000, .i1⟩
  | 78 => ⟨S160000x6x32, .f32⟩
  | 79 => ⟨S160000x6x32, .i1⟩
  | 80 => ⟨S_, .f32⟩
  | 81 => ⟨S160000x6x32, .f32⟩
  | 82 => ⟨S160000x6x32, .f32⟩
  | 83 => ⟨S1x4x32x32, .f32⟩
  | 84 => ⟨S4x32x32, .f32⟩
  | 85 => ⟨S_, .i32⟩
  | 86 => ⟨S160000, .i32⟩
  | 87 => ⟨S160000, .i1⟩
  | 88 => ⟨S_, .i32⟩
  | 89 => ⟨S160000, .i32⟩
  | 90 => ⟨S160000, .i32⟩
  | 91 => ⟨S160000, .i32⟩
  | 92 => ⟨S160000x1, .i32⟩
  | 93 => ⟨S1, .i32⟩
  | 94 => ⟨S_, .i32⟩
  | 95 => ⟨S160000x1, .i32⟩
  | 96 => ⟨S160000x1, .i1⟩
  | 97 => ⟨S1x1, .i32⟩
  | 98 => ⟨S160000x1, .i32⟩
  | 99 => ⟨S160000x1, .i1⟩
  | 100 => ⟨S160000x1, .i1⟩
  | 101 => ⟨S_, .i1⟩
  | 102 => ⟨S160000, .i1⟩
  | 103 => ⟨S160000x32x32, .f32⟩
  | 104 => ⟨S160000x32x32, .i1⟩
  | 105 => ⟨S_, .f32⟩
  | 106 => ⟨S160000x32x32, .f32⟩
  | 107 => ⟨S160000x32x32, .f32⟩
  | 108 => ⟨S1x4x32x32, .f32⟩
  | 109 => ⟨S4x32x32, .f32⟩
  | 110 => ⟨S_, .i32⟩
  | 111 => ⟨S160000, .i32⟩
  | 112 => ⟨S160000, .i1⟩
  | 113 => ⟨S_, .i32⟩
  | 114 => ⟨S160000, .i32⟩
  | 115 => ⟨S160000, .i32⟩
  | 116 => ⟨S160000, .i32⟩
  | 117 => ⟨S160000x1, .i32⟩
  | 118 => ⟨S1, .i32⟩
  | 119 => ⟨S_, .i32⟩
  | 120 => ⟨S160000x1, .i32⟩
  | 121 => ⟨S160000x1, .i1⟩
  | 122 => ⟨S1x1, .i32⟩
  | 123 => ⟨S160000x1, .i32⟩
  | 124 => ⟨S160000x1, .i1⟩
  | 125 => ⟨S160000x1, .i1⟩
  | 126 => ⟨S_, .i1⟩
  | 127 => ⟨S160000, .i1⟩
  | _ => ⟨S160000, .f32⟩

abbrev hbmTy0_5 (i : Nat) : BufTy := match i % 128 with
  | 0 => ⟨S160000x32x32, .f32⟩
  | 1 => ⟨S160000x32x32, .i1⟩
  | 2 => ⟨S_, .f32⟩
  | 3 => ⟨S160000x32x32, .f32⟩
  | 4 => ⟨S160000x32x32, .f32⟩
  | 5 => ⟨S1x4x32x6, .f32⟩
  | 6 => ⟨S4x32x6, .f32⟩
  | 7 => ⟨S_, .i32⟩
  | 8 => ⟨S160000, .i32⟩
  | 9 => ⟨S160000, .i1⟩
  | 10 => ⟨S_, .i32⟩
  | 11 => ⟨S160000, .i32⟩
  | 12 => ⟨S160000, .i32⟩
  | 13 => ⟨S160000, .i32⟩
  | 14 => ⟨S160000x1, .i32⟩
  | 15 => ⟨S1, .i32⟩
  | 16 => ⟨S_, .i32⟩
  | 17 => ⟨S160000x1, .i32⟩
  | 18 => ⟨S160000x1, .i1⟩
  | 19 => ⟨S1x1, .i32⟩
  | 20 => ⟨S160000x1, .i32⟩
  | 21 => ⟨S160000x1, .i1⟩
  | 22 => ⟨S160000x1, .i1⟩
  | 23 => ⟨S_, .i1⟩
  | 24 => ⟨S160000, .i1⟩
  | 25 => ⟨S160000x32x6, .f32⟩
  | 26 => ⟨S160000x32x6, .i1⟩
  | 27 => ⟨S_, .f32⟩
  | 28 => ⟨S160000x32x6, .f32⟩
  | 29 => ⟨S160000x32x6, .f32⟩
  | 30 => ⟨S160000x32, .f32⟩
  | 31 => ⟨S160000x32, .f32⟩
  | 32 => ⟨S160000x32, .f32⟩
  | 33 => ⟨S_, .f32⟩
  | 34 => ⟨S160000x32, .f32⟩
  | 35 => ⟨S160000x32, .f32⟩
  | 36 => ⟨S_, .f32⟩
  | 37 => ⟨S160000x32, .f32⟩
  | 38 => ⟨S160000x32, .f32⟩
  | 39 => ⟨S160000x32, .f32⟩
  | 40 => ⟨S160000x32, .f32⟩
  | 41 => ⟨S160000x32, .f32⟩
  | 42 => ⟨S160000x32, .f32⟩
  | 43 => ⟨S_, .f32⟩
  | 44 => ⟨S160000x32, .f32⟩
  | 45 => ⟨S160000x32, .f32⟩
  | 46 => ⟨S_, .f32⟩
  | 47 => ⟨S160000x32, .f32⟩
  | 48 => ⟨S160000x32, .f32⟩
  | 49 => ⟨S160000x32, .f32⟩
  | 50 => ⟨S160000x32, .f32⟩
  | 51 => ⟨S160000x32, .f32⟩
  | 52 => ⟨S160000x32, .f32⟩
  | 53 => ⟨S_, .f32⟩
  | 54 => ⟨S160000x32, .f32⟩
  | 55 => ⟨S160000x32, .f32⟩
  | 56 => ⟨S_, .f32⟩
  | 57 => ⟨S160000x32, .f32⟩
  | 58 => ⟨S160000x32, .f32⟩
  | 59 => ⟨S160000x32, .f32⟩
  | 60 => ⟨S160000x6, .f32⟩
  | _ => ⟨S160000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S160000, .f32⟩

abbrev bufTy : (tb : Table) → Fin (tcTables nBuf tb) → BufTy
  | .hbm, ⟨i, _⟩ => hbmTy i
  | _, _ => ⟨S160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_cst_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_v19 : Ref sig .tc := ⟨.hbm, 40, rfl⟩
abbrev main_cst_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_v25 : Ref sig .tc := ⟨.hbm, 48, rfl⟩
abbrev main_cst_8 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v30 : Ref sig .tc := ⟨.hbm, 76, rfl⟩
abbrev main_c_9 : Ref sig .tc := ⟨.hbm, 77, rfl⟩
abbrev main_v31 : Ref sig .tc := ⟨.hbm, 78, rfl⟩
abbrev main_v32 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v33 : Ref sig .tc := ⟨.hbm, 102, rfl⟩
abbrev main_call3_c : Ref sig .tc := ⟨.hbm, 103, rfl⟩
abbrev main_call3_v0 : Ref sig .tc := ⟨.hbm, 104, rfl⟩
abbrev main_call3_v1 : Ref sig .tc := ⟨.hbm, 105, rfl⟩
abbrev main_call3_c_0 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_v5 : Ref sig .tc := ⟨.hbm, 110, rfl⟩
abbrev main_call3_c_1 : Ref sig .tc := ⟨.hbm, 111, rfl⟩
abbrev main_call3_c_2 : Ref sig .tc := ⟨.hbm, 112, rfl⟩
abbrev main_call3_v6 : Ref sig .tc := ⟨.hbm, 113, rfl⟩
abbrev main_call3_v7 : Ref sig .tc := ⟨.hbm, 114, rfl⟩
abbrev main_call3_v8 : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_c_3 : Ref sig .tc := ⟨.hbm, 119, rfl⟩
abbrev main_call3_v12 : Ref sig .tc := ⟨.hbm, 120, rfl⟩
abbrev main_call3_v13 : Ref sig .tc := ⟨.hbm, 121, rfl⟩
abbrev main_call3_v14 : Ref sig .tc := ⟨.hbm, 122, rfl⟩
abbrev main_call3_cst : Ref sig .tc := ⟨.hbm, 123, rfl⟩
abbrev main_call3_v15 : Ref sig .tc := ⟨.hbm, 124, rfl⟩
abbrev main_v34 : Ref sig .tc := ⟨.hbm, 125, rfl⟩
abbrev main_c_10 : Ref sig .tc := ⟨.hbm, 126, rfl⟩
abbrev main_v35 : Ref sig .tc := ⟨.hbm, 127, rfl⟩
abbrev main_v36 : Ref sig .tc := ⟨.hbm, 128, rfl⟩
abbrev main_call4_c : Ref sig .tc := ⟨.hbm, 129, rfl⟩
abbrev main_call4_v0 : Ref sig .tc := ⟨.hbm, 130, rfl⟩
abbrev main_call4_v1 : Ref sig .tc := ⟨.hbm, 131, rfl⟩
abbrev main_call4_c_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_v5 : Ref sig .tc := ⟨.hbm, 136, rfl⟩
abbrev main_call4_c_1 : Ref sig .tc := ⟨.hbm, 137, rfl⟩
abbrev main_call4_c_2 : Ref sig .tc := ⟨.hbm, 138, rfl⟩
abbrev main_call4_v6 : Ref sig .tc := ⟨.hbm, 139, rfl⟩
abbrev main_call4_v7 : Ref sig .tc := ⟨.hbm, 140, rfl⟩
abbrev main_call4_v8 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_c_3 : Ref sig .tc := ⟨.hbm, 145, rfl⟩
abbrev main_call4_v12 : Ref sig .tc := ⟨.hbm, 146, rfl⟩
abbrev main_call4_v13 : Ref sig .tc := ⟨.hbm, 147, rfl⟩
abbrev main_call4_v14 : Ref sig .tc := ⟨.hbm, 148, rfl⟩
abbrev main_call4_cst : Ref sig .tc := ⟨.hbm, 149, rfl⟩
abbrev main_call4_v15 : Ref sig .tc := ⟨.hbm, 150, rfl⟩
abbrev main_v37 : Ref sig .tc := ⟨.hbm, 151, rfl⟩
abbrev main_v38 : Ref sig .tc := ⟨.hbm, 152, rfl⟩
abbrev main_v39 : Ref sig .tc := ⟨.hbm, 153, rfl⟩
abbrev main_v40 : Ref sig .tc := ⟨.hbm, 154, rfl⟩
abbrev main_v41 : Ref sig .tc := ⟨.hbm, 155, rfl⟩
abbrev main_cst_11 : Ref sig .tc := ⟨.hbm, 156, rfl⟩
abbrev main_v42 : Ref sig .tc := ⟨.hbm, 157, rfl⟩
abbrev main_v43 : Ref sig .tc := ⟨.hbm, 158, rfl⟩
abbrev main_v44 : Ref sig .tc := ⟨.hbm, 159, rfl⟩
abbrev main_v45 : Ref sig .tc := ⟨.hbm, 160, rfl⟩
abbrev main_v46 : Ref sig .tc := ⟨.hbm, 161, rfl⟩
abbrev main_v47 : Ref sig .tc := ⟨.hbm, 162, rfl⟩
abbrev main_v48 : Ref sig .tc := ⟨.hbm, 163, rfl⟩
abbrev main_v49 : Ref sig .tc := ⟨.hbm, 164, rfl⟩
abbrev main_v50 : Ref sig .tc := ⟨.hbm, 165, rfl⟩
abbrev main_v51 : Ref sig .tc := ⟨.hbm, 166, rfl⟩
abbrev main_cst_12 : Ref sig .tc := ⟨.hbm, 167, rfl⟩
abbrev main_v52 : Ref sig .tc := ⟨.hbm, 168, rfl⟩
abbrev main_v53 : Ref sig .tc := ⟨.hbm, 169, rfl⟩
abbrev main_v54 : Ref sig .tc := ⟨.hbm, 170, rfl⟩
abbrev main_v55 : Ref sig .tc := ⟨.hbm, 171, rfl⟩
abbrev main_v56 : Ref sig .tc := ⟨.hbm, 172, rfl⟩
abbrev main_v57 : Ref sig .tc := ⟨.hbm, 173, rfl⟩
abbrev main_v58 : Ref sig .tc := ⟨.hbm, 174, rfl⟩
abbrev main_v59 : Ref sig .tc := ⟨.hbm, 175, rfl⟩
abbrev main_call5_c : Ref sig .tc := ⟨.hbm, 176, rfl⟩
abbrev main_call5_v0 : Ref sig .tc := ⟨.hbm, 177, rfl⟩
abbrev main_call5_v1 : Ref sig .tc := ⟨.hbm, 178, rfl⟩
abbrev main_call5_c_0 : Ref sig .tc := ⟨.hbm, 179, rfl⟩
abbrev main_call5_v2 : Ref sig .tc := ⟨.hbm, 180, rfl⟩
abbrev main_call5_v3 : Ref sig .tc := ⟨.hbm, 181, rfl⟩
abbrev main_call5_v4 : Ref sig .tc := ⟨.hbm, 182, rfl⟩
abbrev main_call5_v5 : Ref sig .tc := ⟨.hbm, 183, rfl⟩
abbrev main_call5_c_1 : Ref sig .tc := ⟨.hbm, 184, rfl⟩
abbrev main_call5_c_2 : Ref sig .tc := ⟨.hbm, 185, rfl⟩
abbrev main_call5_v6 : Ref sig .tc := ⟨.hbm, 186, rfl⟩
abbrev main_call5_v7 : Ref sig .tc := ⟨.hbm, 187, rfl⟩
abbrev main_call5_v8 : Ref sig .tc := ⟨.hbm, 188, rfl⟩
abbrev main_call5_v9 : Ref sig .tc := ⟨.hbm, 189, rfl⟩
abbrev main_call5_v10 : Ref sig .tc := ⟨.hbm, 190, rfl⟩
abbrev main_call5_v11 : Ref sig .tc := ⟨.hbm, 191, rfl⟩
abbrev main_call5_c_3 : Ref sig .tc := ⟨.hbm, 192, rfl⟩
abbrev main_call5_v12 : Ref sig .tc := ⟨.hbm, 193, rfl⟩
abbrev main_call5_v13 : Ref sig .tc := ⟨.hbm, 194, rfl⟩
abbrev main_call5_v14 : Ref sig .tc := ⟨.hbm, 195, rfl⟩
abbrev main_call5_cst : Ref sig .tc := ⟨.hbm, 196, rfl⟩
abbrev main_call5_v15 : Ref sig .tc := ⟨.hbm, 197, rfl⟩
abbrev main_v60 : Ref sig .tc := ⟨.hbm, 198, rfl⟩
abbrev main_v61 : Ref sig .tc := ⟨.hbm, 199, rfl⟩
abbrev main_v62 : Ref sig .tc := ⟨.hbm, 200, rfl⟩
abbrev main_call6_c : Ref sig .tc := ⟨.hbm, 201, rfl⟩
abbrev main_call6_v0 : Ref sig .tc := ⟨.hbm, 202, rfl⟩
abbrev main_call6_v1 : Ref sig .tc := ⟨.hbm, 203, rfl⟩
abbrev main_call6_c_0 : Ref sig .tc := ⟨.hbm, 204, rfl⟩
abbrev main_call6_v2 : Ref sig .tc := ⟨.hbm, 205, rfl⟩
abbrev main_call6_v3 : Ref sig .tc := ⟨.hbm, 206, rfl⟩
abbrev main_call6_v4 : Ref sig .tc := ⟨.hbm, 207, rfl⟩
abbrev main_call6_v5 : Ref sig .tc := ⟨.hbm, 208, rfl⟩
abbrev main_call6_c_1 : Ref sig .tc := ⟨.hbm, 209, rfl⟩
abbrev main_call6_c_2 : Ref sig .tc := ⟨.hbm, 210, rfl⟩
abbrev main_call6_v6 : Ref sig .tc := ⟨.hbm, 211, rfl⟩
abbrev main_call6_v7 : Ref sig .tc := ⟨.hbm, 212, rfl⟩
abbrev main_call6_v8 : Ref sig .tc := ⟨.hbm, 213, rfl⟩
abbrev main_call6_v9 : Ref sig .tc := ⟨.hbm, 214, rfl⟩
abbrev main_call6_v10 : Ref sig .tc := ⟨.hbm, 215, rfl⟩
abbrev main_call6_v11 : Ref sig .tc := ⟨.hbm, 216, rfl⟩
abbrev main_call6_c_3 : Ref sig .tc := ⟨.hbm, 217, rfl⟩
abbrev main_call6_v12 : Ref sig .tc := ⟨.hbm, 218, rfl⟩
abbrev main_call6_v13 : Ref sig .tc := ⟨.hbm, 219, rfl⟩
abbrev main_call6_v14 : Ref sig .tc := ⟨.hbm, 220, rfl⟩
abbrev main_call6_cst : Ref sig .tc := ⟨.hbm, 221, rfl⟩
abbrev main_call6_v15 : Ref sig .tc := ⟨.hbm, 222, rfl⟩
abbrev main_v63 : Ref sig .tc := ⟨.hbm, 223, rfl⟩
abbrev main_v64 : Ref sig .tc := ⟨.hbm, 224, rfl⟩
abbrev main_v65 : Ref sig .tc := ⟨.hbm, 225, rfl⟩
abbrev main_call7_c : Ref sig .tc := ⟨.hbm, 226, rfl⟩
abbrev main_call7_v0 : Ref sig .tc := ⟨.hbm, 227, rfl⟩
abbrev main_call7_v1 : Ref sig .tc := ⟨.hbm, 228, rfl⟩
abbrev main_call7_c_0 : Ref sig .tc := ⟨.hbm, 229, rfl⟩
abbrev main_call7_v2 : Ref sig .tc := ⟨.hbm, 230, rfl⟩
abbrev main_call7_v3 : Ref sig .tc := ⟨.hbm, 231, rfl⟩
abbrev main_call7_v4 : Ref sig .tc := ⟨.hbm, 232, rfl⟩
abbrev main_call7_v5 : Ref sig .tc := ⟨.hbm, 233, rfl⟩
abbrev main_call7_c_1 : Ref sig .tc := ⟨.hbm, 234, rfl⟩
abbrev main_call7_c_2 : Ref sig .tc := ⟨.hbm, 235, rfl⟩
abbrev main_call7_v6 : Ref sig .tc := ⟨.hbm, 236, rfl⟩
abbrev main_call7_v7 : Ref sig .tc := ⟨.hbm, 237, rfl⟩
abbrev main_call7_v8 : Ref sig .tc := ⟨.hbm, 238, rfl⟩
abbrev main_call7_v9 : Ref sig .tc := ⟨.hbm, 239, rfl⟩
abbrev main_call7_v10 : Ref sig .tc := ⟨.hbm, 240, rfl⟩
abbrev main_call7_v11 : Ref sig .tc := ⟨.hbm, 241, rfl⟩
abbrev main_call7_c_3 : Ref sig .tc := ⟨.hbm, 242, rfl⟩
abbrev main_call7_v12 : Ref sig .tc := ⟨.hbm, 243, rfl⟩
abbrev main_call7_v13 : Ref sig .tc := ⟨.hbm, 244, rfl⟩
abbrev main_call7_v14 : Ref sig .tc := ⟨.hbm, 245, rfl⟩
abbrev main_call7_cst : Ref sig .tc := ⟨.hbm, 246, rfl⟩
abbrev main_call7_v15 : Ref sig .tc := ⟨.hbm, 247, rfl⟩
abbrev main_v66 : Ref sig .tc := ⟨.hbm, 248, rfl⟩
abbrev main_v67 : Ref sig .tc := ⟨.hbm, 249, rfl⟩
abbrev main_v68 : Ref sig .tc := ⟨.hbm, 250, rfl⟩
abbrev main_call8_c : Ref sig .tc := ⟨.hbm, 251, rfl⟩
abbrev main_call8_v0 : Ref sig .tc := ⟨.hbm, 252, rfl⟩
abbrev main_call8_v1 : Ref sig .tc := ⟨.hbm, 253, rfl⟩
abbrev main_call8_c_0 : Ref sig .tc := ⟨.hbm, 254, rfl⟩
abbrev main_call8_v2 : Ref sig .tc := ⟨.hbm, 255, rfl⟩
abbrev main_call8_v3 : Ref sig .tc := ⟨.hbm, 256, rfl⟩
abbrev main_call8_v4 : Ref sig .tc := ⟨.hbm, 257, rfl⟩
abbrev main_call8_v5 : Ref sig .tc := ⟨.hbm, 258, rfl⟩
abbrev main_call8_c_1 : Ref sig .tc := ⟨.hbm, 259, rfl⟩
abbrev main_call8_c_2 : Ref sig .tc := ⟨.hbm, 260, rfl⟩
abbrev main_call8_v6 : Ref sig .tc := ⟨.hbm, 261, rfl⟩
abbrev main_call8_v7 : Ref sig .tc := ⟨.hbm, 262, rfl⟩
abbrev main_call8_v8 : Ref sig .tc := ⟨.hbm, 263, rfl⟩
abbrev main_call8_v9 : Ref sig .tc := ⟨.hbm, 264, rfl⟩
abbrev main_call8_v10 : Ref sig .tc := ⟨.hbm, 265, rfl⟩
abbrev main_call8_v11 : Ref sig .tc := ⟨.hbm, 266, rfl⟩
abbrev main_call8_c_3 : Ref sig .tc := ⟨.hbm, 267, rfl⟩
abbrev main_call8_v12 : Ref sig .tc := ⟨.hbm, 268, rfl⟩
abbrev main_call8_v13 : Ref sig .tc := ⟨.hbm, 269, rfl⟩
abbrev main_call8_v14 : Ref sig .tc := ⟨.hbm, 270, rfl⟩
abbrev main_call8_cst : Ref sig .tc := ⟨.hbm, 271, rfl⟩
abbrev main_call8_v15 : Ref sig .tc := ⟨.hbm, 272, rfl⟩
abbrev main_v69 : Ref sig .tc := ⟨.hbm, 273, rfl⟩
abbrev main_v70 : Ref sig .tc := ⟨.hbm, 274, rfl⟩
abbrev main_call9_v0 : Ref sig .tc := ⟨.hbm, 275, rfl⟩
abbrev main_call9_v1 : Ref sig .tc := ⟨.hbm, 276, rfl⟩
abbrev main_call9_cst : Ref sig .tc := ⟨.hbm, 277, rfl⟩
abbrev main_call9_v2 : Ref sig .tc := ⟨.hbm, 278, rfl⟩
abbrev main_call9_v3 : Ref sig .tc := ⟨.hbm, 279, rfl⟩
abbrev main_call9_cst_0 : Ref sig .tc := ⟨.hbm, 280, rfl⟩
abbrev main_call9_v4 : Ref sig .tc := ⟨.hbm, 281, rfl⟩
abbrev main_call9_v5 : Ref sig .tc := ⟨.hbm, 282, rfl⟩
abbrev main_v71 : Ref sig .tc := ⟨.hbm, 283, rfl⟩
abbrev main_v72 : Ref sig .tc := ⟨.hbm, 284, rfl⟩
abbrev main_call10_v0 : Ref sig .tc := ⟨.hbm, 285, rfl⟩
abbrev main_call10_v1 : Ref sig .tc := ⟨.hbm, 286, rfl⟩
abbrev main_call10_cst : Ref sig .tc := ⟨.hbm, 287, rfl⟩
abbrev main_call10_v2 : Ref sig .tc := ⟨.hbm, 288, rfl⟩
abbrev main_call10_v3 : Ref sig .tc := ⟨.hbm, 289, rfl⟩
abbrev main_call10_cst_0 : Ref sig .tc := ⟨.hbm, 290, rfl⟩
abbrev main_call10_v4 : Ref sig .tc := ⟨.hbm, 291, rfl⟩
abbrev main_call10_v5 : Ref sig .tc := ⟨.hbm, 292, rfl⟩
abbrev main_v73 : Ref sig .tc := ⟨.hbm, 293, rfl⟩
abbrev main_v74 : Ref sig .tc := ⟨.hbm, 294, rfl⟩
abbrev main_call11_v0 : Ref sig .tc := ⟨.hbm, 295, rfl⟩
abbrev main_call11_v1 : Ref sig .tc := ⟨.hbm, 296, rfl⟩
abbrev main_call11_cst : Ref sig .tc := ⟨.hbm, 297, rfl⟩
abbrev main_call11_v2 : Ref sig .tc := ⟨.hbm, 298, rfl⟩
abbrev main_call11_v3 : Ref sig .tc := ⟨.hbm, 299, rfl⟩
abbrev main_call11_cst_0 : Ref sig .tc := ⟨.hbm, 300, rfl⟩
abbrev main_call11_v4 : Ref sig .tc := ⟨.hbm, 301, rfl⟩
abbrev main_call11_v5 : Ref sig .tc := ⟨.hbm, 302, rfl⟩
abbrev main_v75 : Ref sig .tc := ⟨.hbm, 303, rfl⟩
abbrev main_v76 : Ref sig .tc := ⟨.hbm, 304, rfl⟩
abbrev main_v77 : Ref sig .tc := ⟨.hbm, 305, rfl⟩
abbrev main_v78 : Ref sig .tc := ⟨.hbm, 306, rfl⟩
abbrev main_v79 : Ref sig .tc := ⟨.hbm, 307, rfl⟩
abbrev main_call12_c : Ref sig .tc := ⟨.hbm, 308, rfl⟩
abbrev main_call12_v0 : Ref sig .tc := ⟨.hbm, 309, rfl⟩
abbrev main_call12_v1 : Ref sig .tc := ⟨.hbm, 310, rfl⟩
abbrev main_call12_c_0 : Ref sig .tc := ⟨.hbm, 311, rfl⟩
abbrev main_call12_v2 : Ref sig .tc := ⟨.hbm, 312, rfl⟩
abbrev main_call12_v3 : Ref sig .tc := ⟨.hbm, 313, rfl⟩
abbrev main_call12_v4 : Ref sig .tc := ⟨.hbm, 314, rfl⟩
abbrev main_call12_v5 : Ref sig .tc := ⟨.hbm, 315, rfl⟩
abbrev main_call12_c_1 : Ref sig .tc := ⟨.hbm, 316, rfl⟩
abbrev main_call12_c_2 : Ref sig .tc := ⟨.hbm, 317, rfl⟩
abbrev main_call12_v6 : Ref sig .tc := ⟨.hbm, 318, rfl⟩
abbrev main_call12_v7 : Ref sig .tc := ⟨.hbm, 319, rfl⟩
abbrev main_call12_v8 : Ref sig .tc := ⟨.hbm, 320, rfl⟩
abbrev main_call12_v9 : Ref sig .tc := ⟨.hbm, 321, rfl⟩
abbrev main_call12_v10 : Ref sig .tc := ⟨.hbm, 322, rfl⟩
abbrev main_call12_v11 : Ref sig .tc := ⟨.hbm, 323, rfl⟩
abbrev main_call12_c_3 : Ref sig .tc := ⟨.hbm, 324, rfl⟩
abbrev main_call12_v12 : Ref sig .tc := ⟨.hbm, 325, rfl⟩
abbrev main_call12_v13 : Ref sig .tc := ⟨.hbm, 326, rfl⟩
abbrev main_call12_v14 : Ref sig .tc := ⟨.hbm, 327, rfl⟩
abbrev main_call12_cst : Ref sig .tc := ⟨.hbm, 328, rfl⟩
abbrev main_call12_v15 : Ref sig .tc := ⟨.hbm, 329, rfl⟩
abbrev main_v80 : Ref sig .tc := ⟨.hbm, 330, rfl⟩
abbrev main_v81 : Ref sig .tc := ⟨.hbm, 331, rfl⟩
abbrev main_v82 : Ref sig .tc := ⟨.hbm, 332, rfl⟩
abbrev main_call13_c : Ref sig .tc := ⟨.hbm, 333, rfl⟩
abbrev main_call13_v0 : Ref sig .tc := ⟨.hbm, 334, rfl⟩
abbrev main_call13_v1 : Ref sig .tc := ⟨.hbm, 335, rfl⟩
abbrev main_call13_c_0 : Ref sig .tc := ⟨.hbm, 336, rfl⟩
abbrev main_call13_v2 : Ref sig .tc := ⟨.hbm, 337, rfl⟩
abbrev main_call13_v3 : Ref sig .tc := ⟨.hbm, 338, rfl⟩
abbrev main_call13_v4 : Ref sig .tc := ⟨.hbm, 339, rfl⟩
abbrev main_call13_v5 : Ref sig .tc := ⟨.hbm, 340, rfl⟩
abbrev main_call13_c_1 : Ref sig .tc := ⟨.hbm, 341, rfl⟩
abbrev main_call13_c_2 : Ref sig .tc := ⟨.hbm, 342, rfl⟩
abbrev main_call13_v6 : Ref sig .tc := ⟨.hbm, 343, rfl⟩
abbrev main_call13_v7 : Ref sig .tc := ⟨.hbm, 344, rfl⟩
abbrev main_call13_v8 : Ref sig .tc := ⟨.hbm, 345, rfl⟩
abbrev main_call13_v9 : Ref sig .tc := ⟨.hbm, 346, rfl⟩
abbrev main_call13_v10 : Ref sig .tc := ⟨.hbm, 347, rfl⟩
abbrev main_call13_v11 : Ref sig .tc := ⟨.hbm, 348, rfl⟩
abbrev main_call13_c_3 : Ref sig .tc := ⟨.hbm, 349, rfl⟩
abbrev main_call13_v12 : Ref sig .tc := ⟨.hbm, 350, rfl⟩
abbrev main_call13_v13 : Ref sig .tc := ⟨.hbm, 351, rfl⟩
abbrev main_call13_v14 : Ref sig .tc := ⟨.hbm, 352, rfl⟩
abbrev main_call13_cst : Ref sig .tc := ⟨.hbm, 353, rfl⟩
abbrev main_call13_v15 : Ref sig .tc := ⟨.hbm, 354, rfl⟩
abbrev main_v83 : Ref sig .tc := ⟨.hbm, 355, rfl⟩
abbrev main_v84 : Ref sig .tc := ⟨.hbm, 356, rfl⟩
abbrev main_v85 : Ref sig .tc := ⟨.hbm, 357, rfl⟩
abbrev main_call14_c : Ref sig .tc := ⟨.hbm, 358, rfl⟩
abbrev main_call14_v0 : Ref sig .tc := ⟨.hbm, 359, rfl⟩
abbrev main_call14_v1 : Ref sig .tc := ⟨.hbm, 360, rfl⟩
abbrev main_call14_c_0 : Ref sig .tc := ⟨.hbm, 361, rfl⟩
abbrev main_call14_v2 : Ref sig .tc := ⟨.hbm, 362, rfl⟩
abbrev main_call14_v3 : Ref sig .tc := ⟨.hbm, 363, rfl⟩
abbrev main_call14_v4 : Ref sig .tc := ⟨.hbm, 364, rfl⟩
abbrev main_call14_v5 : Ref sig .tc := ⟨.hbm, 365, rfl⟩
abbrev main_call14_c_1 : Ref sig .tc := ⟨.hbm, 366, rfl⟩
abbrev main_call14_c_2 : Ref sig .tc := ⟨.hbm, 367, rfl⟩
abbrev main_call14_v6 : Ref sig .tc := ⟨.hbm, 368, rfl⟩
abbrev main_call14_v7 : Ref sig .tc := ⟨.hbm, 369, rfl⟩
abbrev main_call14_v8 : Ref sig .tc := ⟨.hbm, 370, rfl⟩
abbrev main_call14_v9 : Ref sig .tc := ⟨.hbm, 371, rfl⟩
abbrev main_call14_v10 : Ref sig .tc := ⟨.hbm, 372, rfl⟩
abbrev main_call14_v11 : Ref sig .tc := ⟨.hbm, 373, rfl⟩
abbrev main_call14_c_3 : Ref sig .tc := ⟨.hbm, 374, rfl⟩
abbrev main_call14_v12 : Ref sig .tc := ⟨.hbm, 375, rfl⟩
abbrev main_call14_v13 : Ref sig .tc := ⟨.hbm, 376, rfl⟩
abbrev main_call14_v14 : Ref sig .tc := ⟨.hbm, 377, rfl⟩
abbrev main_call14_cst : Ref sig .tc := ⟨.hbm, 378, rfl⟩
abbrev main_call14_v15 : Ref sig .tc := ⟨.hbm, 379, rfl⟩
abbrev main_v86 : Ref sig .tc := ⟨.hbm, 380, rfl⟩
abbrev main_v87 : Ref sig .tc := ⟨.hbm, 381, rfl⟩
abbrev main_v88 : Ref sig .tc := ⟨.hbm, 382, rfl⟩
abbrev main_call15_c : Ref sig .tc := ⟨.hbm, 383, rfl⟩
abbrev main_call15_v0 : Ref sig .tc := ⟨.hbm, 384, rfl⟩
abbrev main_call15_v1 : Ref sig .tc := ⟨.hbm, 385, rfl⟩
abbrev main_call15_c_0 : Ref sig .tc := ⟨.hbm, 386, rfl⟩
abbrev main_call15_v2 : Ref sig .tc := ⟨.hbm, 387, rfl⟩
abbrev main_call15_v3 : Ref sig .tc := ⟨.hbm, 388, rfl⟩
abbrev main_call15_v4 : Ref sig .tc := ⟨.hbm, 389, rfl⟩
abbrev main_call15_v5 : Ref sig .tc := ⟨.hbm, 390, rfl⟩
abbrev main_call15_c_1 : Ref sig .tc := ⟨.hbm, 391, rfl⟩
abbrev main_call15_c_2 : Ref sig .tc := ⟨.hbm, 392, rfl⟩
abbrev main_call15_v6 : Ref sig .tc := ⟨.hbm, 393, rfl⟩
abbrev main_call15_v7 : Ref sig .tc := ⟨.hbm, 394, rfl⟩
abbrev main_call15_v8 : Ref sig .tc := ⟨.hbm, 395, rfl⟩
abbrev main_call15_v9 : Ref sig .tc := ⟨.hbm, 396, rfl⟩
abbrev main_call15_v10 : Ref sig .tc := ⟨.hbm, 397, rfl⟩
abbrev main_call15_v11 : Ref sig .tc := ⟨.hbm, 398, rfl⟩
abbrev main_call15_c_3 : Ref sig .tc := ⟨.hbm, 399, rfl⟩
abbrev main_call15_v12 : Ref sig .tc := ⟨.hbm, 400, rfl⟩
abbrev main_call15_v13 : Ref sig .tc := ⟨.hbm, 401, rfl⟩
abbrev main_call15_v14 : Ref sig .tc := ⟨.hbm, 402, rfl⟩
abbrev main_call15_cst : Ref sig .tc := ⟨.hbm, 403, rfl⟩
abbrev main_call15_v15 : Ref sig .tc := ⟨.hbm, 404, rfl⟩
abbrev main_v89 : Ref sig .tc := ⟨.hbm, 405, rfl⟩
abbrev main_v90 : Ref sig .tc := ⟨.hbm, 406, rfl⟩
abbrev main_call16_v0 : Ref sig .tc := ⟨.hbm, 407, rfl⟩
abbrev main_call16_v1 : Ref sig .tc := ⟨.hbm, 408, rfl⟩
abbrev main_call16_cst : Ref sig .tc := ⟨.hbm, 409, rfl⟩
abbrev main_call16_v2 : Ref sig .tc := ⟨.hbm, 410, rfl⟩
abbrev main_call16_v3 : Ref sig .tc := ⟨.hbm, 411, rfl⟩
abbrev main_call16_cst_0 : Ref sig .tc := ⟨.hbm, 412, rfl⟩
abbrev main_call16_v4 : Ref sig .tc := ⟨.hbm, 413, rfl⟩
abbrev main_call16_v5 : Ref sig .tc := ⟨.hbm, 414, rfl⟩
abbrev main_v91 : Ref sig .tc := ⟨.hbm, 415, rfl⟩
abbrev main_v92 : Ref sig .tc := ⟨.hbm, 416, rfl⟩
abbrev main_call17_v0 : Ref sig .tc := ⟨.hbm, 417, rfl⟩
abbrev main_call17_v1 : Ref sig .tc := ⟨.hbm, 418, rfl⟩
abbrev main_call17_cst : Ref sig .tc := ⟨.hbm, 419, rfl⟩
abbrev main_call17_v2 : Ref sig .tc := ⟨.hbm, 420, rfl⟩
abbrev main_call17_v3 : Ref sig .tc := ⟨.hbm, 421, rfl⟩
abbrev main_call17_cst_0 : Ref sig .tc := ⟨.hbm, 422, rfl⟩
abbrev main_call17_v4 : Ref sig .tc := ⟨.hbm, 423, rfl⟩
abbrev main_call17_v5 : Ref sig .tc := ⟨.hbm, 424, rfl⟩
abbrev main_v93 : Ref sig .tc := ⟨.hbm, 425, rfl⟩
abbrev main_v94 : Ref sig .tc := ⟨.hbm, 426, rfl⟩
abbrev main_call18_v0 : Ref sig .tc := ⟨.hbm, 427, rfl⟩
abbrev main_call18_v1 : Ref sig .tc := ⟨.hbm, 428, rfl⟩
abbrev main_call18_cst : Ref sig .tc := ⟨.hbm, 429, rfl⟩
abbrev main_call18_v2 : Ref sig .tc := ⟨.hbm, 430, rfl⟩
abbrev main_call18_v3 : Ref sig .tc := ⟨.hbm, 431, rfl⟩
abbrev main_call18_cst_0 : Ref sig .tc := ⟨.hbm, 432, rfl⟩
abbrev main_call18_v4 : Ref sig .tc := ⟨.hbm, 433, rfl⟩
abbrev main_call18_v5 : Ref sig .tc := ⟨.hbm, 434, rfl⟩
abbrev main_v95 : Ref sig .tc := ⟨.hbm, 435, rfl⟩
abbrev main_v96 : Ref sig .tc := ⟨.hbm, 436, rfl⟩
abbrev main_v97 : Ref sig .tc := ⟨.hbm, 437, rfl⟩
abbrev main_v98 : Ref sig .tc := ⟨.hbm, 438, rfl⟩
abbrev main_v99 : Ref sig .tc := ⟨.hbm, 439, rfl⟩
abbrev main_call19_c : Ref sig .tc := ⟨.hbm, 440, rfl⟩
abbrev main_call19_v0 : Ref sig .tc := ⟨.hbm, 441, rfl⟩
abbrev main_call19_v1 : Ref sig .tc := ⟨.hbm, 442, rfl⟩
abbrev main_call19_c_0 : Ref sig .tc := ⟨.hbm, 443, rfl⟩
abbrev main_call19_v2 : Ref sig .tc := ⟨.hbm, 444, rfl⟩
abbrev main_call19_v3 : Ref sig .tc := ⟨.hbm, 445, rfl⟩
abbrev main_call19_v4 : Ref sig .tc := ⟨.hbm, 446, rfl⟩
abbrev main_call19_v5 : Ref sig .tc := ⟨.hbm, 447, rfl⟩
abbrev main_call19_c_1 : Ref sig .tc := ⟨.hbm, 448, rfl⟩
abbrev main_call19_c_2 : Ref sig .tc := ⟨.hbm, 449, rfl⟩
abbrev main_call19_v6 : Ref sig .tc := ⟨.hbm, 450, rfl⟩
abbrev main_call19_v7 : Ref sig .tc := ⟨.hbm, 451, rfl⟩
abbrev main_call19_v8 : Ref sig .tc := ⟨.hbm, 452, rfl⟩
abbrev main_call19_v9 : Ref sig .tc := ⟨.hbm, 453, rfl⟩
abbrev main_call19_v10 : Ref sig .tc := ⟨.hbm, 454, rfl⟩
abbrev main_call19_v11 : Ref sig .tc := ⟨.hbm, 455, rfl⟩
abbrev main_call19_c_3 : Ref sig .tc := ⟨.hbm, 456, rfl⟩
abbrev main_call19_v12 : Ref sig .tc := ⟨.hbm, 457, rfl⟩
abbrev main_call19_v13 : Ref sig .tc := ⟨.hbm, 458, rfl⟩
abbrev main_call19_v14 : Ref sig .tc := ⟨.hbm, 459, rfl⟩
abbrev main_call19_cst : Ref sig .tc := ⟨.hbm, 460, rfl⟩
abbrev main_call19_v15 : Ref sig .tc := ⟨.hbm, 461, rfl⟩
abbrev main_v100 : Ref sig .tc := ⟨.hbm, 462, rfl⟩
abbrev main_v101 : Ref sig .tc := ⟨.hbm, 463, rfl⟩
abbrev main_v102 : Ref sig .tc := ⟨.hbm, 464, rfl⟩
abbrev main_call20_c : Ref sig .tc := ⟨.hbm, 465, rfl⟩
abbrev main_call20_v0 : Ref sig .tc := ⟨.hbm, 466, rfl⟩
abbrev main_call20_v1 : Ref sig .tc := ⟨.hbm, 467, rfl⟩
abbrev main_call20_c_0 : Ref sig .tc := ⟨.hbm, 468, rfl⟩
abbrev main_call20_v2 : Ref sig .tc := ⟨.hbm, 469, rfl⟩
abbrev main_call20_v3 : Ref sig .tc := ⟨.hbm, 470, rfl⟩
abbrev main_call20_v4 : Ref sig .tc := ⟨.hbm, 471, rfl⟩
abbrev main_call20_v5 : Ref sig .tc := ⟨.hbm, 472, rfl⟩
abbrev main_call20_c_1 : Ref sig .tc := ⟨.hbm, 473, rfl⟩
abbrev main_call20_c_2 : Ref sig .tc := ⟨.hbm, 474, rfl⟩
abbrev main_call20_v6 : Ref sig .tc := ⟨.hbm, 475, rfl⟩
abbrev main_call20_v7 : Ref sig .tc := ⟨.hbm, 476, rfl⟩
abbrev main_call20_v8 : Ref sig .tc := ⟨.hbm, 477, rfl⟩
abbrev main_call20_v9 : Ref sig .tc := ⟨.hbm, 478, rfl⟩
abbrev main_call20_v10 : Ref sig .tc := ⟨.hbm, 479, rfl⟩
abbrev main_call20_v11 : Ref sig .tc := ⟨.hbm, 480, rfl⟩
abbrev main_call20_c_3 : Ref sig .tc := ⟨.hbm, 481, rfl⟩
abbrev main_call20_v12 : Ref sig .tc := ⟨.hbm, 482, rfl⟩
abbrev main_call20_v13 : Ref sig .tc := ⟨.hbm, 483, rfl⟩
abbrev main_call20_v14 : Ref sig .tc := ⟨.hbm, 484, rfl⟩
abbrev main_call20_cst : Ref sig .tc := ⟨.hbm, 485, rfl⟩
abbrev main_call20_v15 : Ref sig .tc := ⟨.hbm, 486, rfl⟩
abbrev main_v103 : Ref sig .tc := ⟨.hbm, 487, rfl⟩
abbrev main_v104 : Ref sig .tc := ⟨.hbm, 488, rfl⟩
abbrev main_v105 : Ref sig .tc := ⟨.hbm, 489, rfl⟩
abbrev main_call21_c : Ref sig .tc := ⟨.hbm, 490, rfl⟩
abbrev main_call21_v0 : Ref sig .tc := ⟨.hbm, 491, rfl⟩
abbrev main_call21_v1 : Ref sig .tc := ⟨.hbm, 492, rfl⟩
abbrev main_call21_c_0 : Ref sig .tc := ⟨.hbm, 493, rfl⟩
abbrev main_call21_v2 : Ref sig .tc := ⟨.hbm, 494, rfl⟩
abbrev main_call21_v3 : Ref sig .tc := ⟨.hbm, 495, rfl⟩
abbrev main_call21_v4 : Ref sig .tc := ⟨.hbm, 496, rfl⟩
abbrev main_call21_v5 : Ref sig .tc := ⟨.hbm, 497, rfl⟩
abbrev main_call21_c_1 : Ref sig .tc := ⟨.hbm, 498, rfl⟩
abbrev main_call21_c_2 : Ref sig .tc := ⟨.hbm, 499, rfl⟩
abbrev main_call21_v6 : Ref sig .tc := ⟨.hbm, 500, rfl⟩
abbrev main_call21_v7 : Ref sig .tc := ⟨.hbm, 501, rfl⟩
abbrev main_call21_v8 : Ref sig .tc := ⟨.hbm, 502, rfl⟩
abbrev main_call21_v9 : Ref sig .tc := ⟨.hbm, 503, rfl⟩
abbrev main_call21_v10 : Ref sig .tc := ⟨.hbm, 504, rfl⟩
abbrev main_call21_v11 : Ref sig .tc := ⟨.hbm, 505, rfl⟩
abbrev main_call21_c_3 : Ref sig .tc := ⟨.hbm, 506, rfl⟩
abbrev main_call21_v12 : Ref sig .tc := ⟨.hbm, 507, rfl⟩
abbrev main_call21_v13 : Ref sig .tc := ⟨.hbm, 508, rfl⟩
abbrev main_call21_v14 : Ref sig .tc := ⟨.hbm, 509, rfl⟩
abbrev main_call21_cst : Ref sig .tc := ⟨.hbm, 510, rfl⟩
abbrev main_call21_v15 : Ref sig .tc := ⟨.hbm, 511, rfl⟩
abbrev main_v106 : Ref sig .tc := ⟨.hbm, 512, rfl⟩
abbrev main_v107 : Ref sig .tc := ⟨.hbm, 513, rfl⟩
abbrev main_v108 : Ref sig .tc := ⟨.hbm, 514, rfl⟩
abbrev main_call22_c : Ref sig .tc := ⟨.hbm, 515, rfl⟩
abbrev main_call22_v0 : Ref sig .tc := ⟨.hbm, 516, rfl⟩
abbrev main_call22_v1 : Ref sig .tc := ⟨.hbm, 517, rfl⟩
abbrev main_call22_c_0 : Ref sig .tc := ⟨.hbm, 518, rfl⟩
abbrev main_call22_v2 : Ref sig .tc := ⟨.hbm, 519, rfl⟩
abbrev main_call22_v3 : Ref sig .tc := ⟨.hbm, 520, rfl⟩
abbrev main_call22_v4 : Ref sig .tc := ⟨.hbm, 521, rfl⟩
abbrev main_call22_v5 : Ref sig .tc := ⟨.hbm, 522, rfl⟩
abbrev main_call22_c_1 : Ref sig .tc := ⟨.hbm, 523, rfl⟩
abbrev main_call22_c_2 : Ref sig .tc := ⟨.hbm, 524, rfl⟩
abbrev main_call22_v6 : Ref sig .tc := ⟨.hbm, 525, rfl⟩
abbrev main_call22_v7 : Ref sig .tc := ⟨.hbm, 526, rfl⟩
abbrev main_call22_v8 : Ref sig .tc := ⟨.hbm, 527, rfl⟩
abbrev main_call22_v9 : Ref sig .tc := ⟨.hbm, 528, rfl⟩
abbrev main_call22_v10 : Ref sig .tc := ⟨.hbm, 529, rfl⟩
abbrev main_call22_v11 : Ref sig .tc := ⟨.hbm, 530, rfl⟩
abbrev main_call22_c_3 : Ref sig .tc := ⟨.hbm, 531, rfl⟩
abbrev main_call22_v12 : Ref sig .tc := ⟨.hbm, 532, rfl⟩
abbrev main_call22_v13 : Ref sig .tc := ⟨.hbm, 533, rfl⟩
abbrev main_call22_v14 : Ref sig .tc := ⟨.hbm, 534, rfl⟩
abbrev main_call22_cst : Ref sig .tc := ⟨.hbm, 535, rfl⟩
abbrev main_call22_v15 : Ref sig .tc := ⟨.hbm, 536, rfl⟩
abbrev main_v109 : Ref sig .tc := ⟨.hbm, 537, rfl⟩
abbrev main_v110 : Ref sig .tc := ⟨.hbm, 538, rfl⟩
abbrev main_call23_v0 : Ref sig .tc := ⟨.hbm, 539, rfl⟩
abbrev main_call23_v1 : Ref sig .tc := ⟨.hbm, 540, rfl⟩
abbrev main_call23_cst : Ref sig .tc := ⟨.hbm, 541, rfl⟩
abbrev main_call23_v2 : Ref sig .tc := ⟨.hbm, 542, rfl⟩
abbrev main_call23_v3 : Ref sig .tc := ⟨.hbm, 543, rfl⟩
abbrev main_call23_cst_0 : Ref sig .tc := ⟨.hbm, 544, rfl⟩
abbrev main_call23_v4 : Ref sig .tc := ⟨.hbm, 545, rfl⟩
abbrev main_call23_v5 : Ref sig .tc := ⟨.hbm, 546, rfl⟩
abbrev main_v111 : Ref sig .tc := ⟨.hbm, 547, rfl⟩
abbrev main_v112 : Ref sig .tc := ⟨.hbm, 548, rfl⟩
abbrev main_call24_v0 : Ref sig .tc := ⟨.hbm, 549, rfl⟩
abbrev main_call24_v1 : Ref sig .tc := ⟨.hbm, 550, rfl⟩
abbrev main_call24_cst : Ref sig .tc := ⟨.hbm, 551, rfl⟩
abbrev main_call24_v2 : Ref sig .tc := ⟨.hbm, 552, rfl⟩
abbrev main_call24_v3 : Ref sig .tc := ⟨.hbm, 553, rfl⟩
abbrev main_call24_cst_0 : Ref sig .tc := ⟨.hbm, 554, rfl⟩
abbrev main_call24_v4 : Ref sig .tc := ⟨.hbm, 555, rfl⟩
abbrev main_call24_v5 : Ref sig .tc := ⟨.hbm, 556, rfl⟩
abbrev main_v113 : Ref sig .tc := ⟨.hbm, 557, rfl⟩
abbrev main_v114 : Ref sig .tc := ⟨.hbm, 558, rfl⟩
abbrev main_call25_v0 : Ref sig .tc := ⟨.hbm, 559, rfl⟩
abbrev main_call25_v1 : Ref sig .tc := ⟨.hbm, 560, rfl⟩
abbrev main_call25_cst : Ref sig .tc := ⟨.hbm, 561, rfl⟩
abbrev main_call25_v2 : Ref sig .tc := ⟨.hbm, 562, rfl⟩
abbrev main_call25_v3 : Ref sig .tc := ⟨.hbm, 563, rfl⟩
abbrev main_call25_cst_0 : Ref sig .tc := ⟨.hbm, 564, rfl⟩
abbrev main_call25_v4 : Ref sig .tc := ⟨.hbm, 565, rfl⟩
abbrev main_call25_v5 : Ref sig .tc := ⟨.hbm, 566, rfl⟩
abbrev main_v115 : Ref sig .tc := ⟨.hbm, 567, rfl⟩
abbrev main_v116 : Ref sig .tc := ⟨.hbm, 568, rfl⟩
abbrev main_v117 : Ref sig .tc := ⟨.hbm, 569, rfl⟩
abbrev main_v118 : Ref sig .tc := ⟨.hbm, 570, rfl⟩
abbrev main_v119 : Ref sig .tc := ⟨.hbm, 571, rfl⟩
abbrev main_call26_c : Ref sig .tc := ⟨.hbm, 572, rfl⟩
abbrev main_call26_v0 : Ref sig .tc := ⟨.hbm, 573, rfl⟩
abbrev main_call26_v1 : Ref sig .tc := ⟨.hbm, 574, rfl⟩
abbrev main_call26_c_0 : Ref sig .tc := ⟨.hbm, 575, rfl⟩
abbrev main_call26_v2 : Ref sig .tc := ⟨.hbm, 576, rfl⟩
abbrev main_call26_v3 : Ref sig .tc := ⟨.hbm, 577, rfl⟩
abbrev main_call26_v4 : Ref sig .tc := ⟨.hbm, 578, rfl⟩
abbrev main_call26_v5 : Ref sig .tc := ⟨.hbm, 579, rfl⟩
abbrev main_call26_c_1 : Ref sig .tc := ⟨.hbm, 580, rfl⟩
abbrev main_call26_c_2 : Ref sig .tc := ⟨.hbm, 581, rfl⟩
abbrev main_call26_v6 : Ref sig .tc := ⟨.hbm, 582, rfl⟩
abbrev main_call26_v7 : Ref sig .tc := ⟨.hbm, 583, rfl⟩
abbrev main_call26_v8 : Ref sig .tc := ⟨.hbm, 584, rfl⟩
abbrev main_call26_v9 : Ref sig .tc := ⟨.hbm, 585, rfl⟩
abbrev main_call26_v10 : Ref sig .tc := ⟨.hbm, 586, rfl⟩
abbrev main_call26_v11 : Ref sig .tc := ⟨.hbm, 587, rfl⟩
abbrev main_call26_c_3 : Ref sig .tc := ⟨.hbm, 588, rfl⟩
abbrev main_call26_v12 : Ref sig .tc := ⟨.hbm, 589, rfl⟩
abbrev main_call26_v13 : Ref sig .tc := ⟨.hbm, 590, rfl⟩
abbrev main_call26_v14 : Ref sig .tc := ⟨.hbm, 591, rfl⟩
abbrev main_call26_cst : Ref sig .tc := ⟨.hbm, 592, rfl⟩
abbrev main_call26_v15 : Ref sig .tc := ⟨.hbm, 593, rfl⟩
abbrev main_v120 : Ref sig .tc := ⟨.hbm, 594, rfl⟩
abbrev main_v121 : Ref sig .tc := ⟨.hbm, 595, rfl⟩
abbrev main_v122 : Ref sig .tc := ⟨.hbm, 596, rfl⟩
abbrev main_call27_c : Ref sig .tc := ⟨.hbm, 597, rfl⟩
abbrev main_call27_v0 : Ref sig .tc := ⟨.hbm, 598, rfl⟩
abbrev main_call27_v1 : Ref sig .tc := ⟨.hbm, 599, rfl⟩
abbrev main_call27_c_0 : Ref sig .tc := ⟨.hbm, 600, rfl⟩
abbrev main_call27_v2 : Ref sig .tc := ⟨.hbm, 601, rfl⟩
abbrev main_call27_v3 : Ref sig .tc := ⟨.hbm, 602, rfl⟩
abbrev main_call27_v4 : Ref sig .tc := ⟨.hbm, 603, rfl⟩
abbrev main_call27_v5 : Ref sig .tc := ⟨.hbm, 604, rfl⟩
abbrev main_call27_c_1 : Ref sig .tc := ⟨.hbm, 605, rfl⟩
abbrev main_call27_c_2 : Ref sig .tc := ⟨.hbm, 606, rfl⟩
abbrev main_call27_v6 : Ref sig .tc := ⟨.hbm, 607, rfl⟩
abbrev main_call27_v7 : Ref sig .tc := ⟨.hbm, 608, rfl⟩
abbrev main_call27_v8 : Ref sig .tc := ⟨.hbm, 609, rfl⟩
abbrev main_call27_v9 : Ref sig .tc := ⟨.hbm, 610, rfl⟩
abbrev main_call27_v10 : Ref sig .tc := ⟨.hbm, 611, rfl⟩
abbrev main_call27_v11 : Ref sig .tc := ⟨.hbm, 612, rfl⟩
abbrev main_call27_c_3 : Ref sig .tc := ⟨.hbm, 613, rfl⟩
abbrev main_call27_v12 : Ref sig .tc := ⟨.hbm, 614, rfl⟩
abbrev main_call27_v13 : Ref sig .tc := ⟨.hbm, 615, rfl⟩
abbrev main_call27_v14 : Ref sig .tc := ⟨.hbm, 616, rfl⟩
abbrev main_call27_cst : Ref sig .tc := ⟨.hbm, 617, rfl⟩
abbrev main_call27_v15 : Ref sig .tc := ⟨.hbm, 618, rfl⟩
abbrev main_v123 : Ref sig .tc := ⟨.hbm, 619, rfl⟩
abbrev main_v124 : Ref sig .tc := ⟨.hbm, 620, rfl⟩
abbrev main_v125 : Ref sig .tc := ⟨.hbm, 621, rfl⟩
abbrev main_call28_c : Ref sig .tc := ⟨.hbm, 622, rfl⟩
abbrev main_call28_v0 : Ref sig .tc := ⟨.hbm, 623, rfl⟩
abbrev main_call28_v1 : Ref sig .tc := ⟨.hbm, 624, rfl⟩
abbrev main_call28_c_0 : Ref sig .tc := ⟨.hbm, 625, rfl⟩
abbrev main_call28_v2 : Ref sig .tc := ⟨.hbm, 626, rfl⟩
abbrev main_call28_v3 : Ref sig .tc := ⟨.hbm, 627, rfl⟩
abbrev main_call28_v4 : Ref sig .tc := ⟨.hbm, 628, rfl⟩
abbrev main_call28_v5 : Ref sig .tc := ⟨.hbm, 629, rfl⟩
abbrev main_call28_c_1 : Ref sig .tc := ⟨.hbm, 630, rfl⟩
abbrev main_call28_c_2 : Ref sig .tc := ⟨.hbm, 631, rfl⟩
abbrev main_call28_v6 : Ref sig .tc := ⟨.hbm, 632, rfl⟩
abbrev main_call28_v7 : Ref sig .tc := ⟨.hbm, 633, rfl⟩
abbrev main_call28_v8 : Ref sig .tc := ⟨.hbm, 634, rfl⟩
abbrev main_call28_v9 : Ref sig .tc := ⟨.hbm, 635, rfl⟩
abbrev main_call28_v10 : Ref sig .tc := ⟨.hbm, 636, rfl⟩
abbrev main_call28_v11 : Ref sig .tc := ⟨.hbm, 637, rfl⟩
abbrev main_call28_c_3 : Ref sig .tc := ⟨.hbm, 638, rfl⟩
abbrev main_call28_v12 : Ref sig .tc := ⟨.hbm, 639, rfl⟩
abbrev main_call28_v13 : Ref sig .tc := ⟨.hbm, 640, rfl⟩
abbrev main_call28_v14 : Ref sig .tc := ⟨.hbm, 641, rfl⟩
abbrev main_call28_cst : Ref sig .tc := ⟨.hbm, 642, rfl⟩
abbrev main_call28_v15 : Ref sig .tc := ⟨.hbm, 643, rfl⟩
abbrev main_v126 : Ref sig .tc := ⟨.hbm, 644, rfl⟩
abbrev main_v127 : Ref sig .tc := ⟨.hbm, 645, rfl⟩
abbrev main_v128 : Ref sig .tc := ⟨.hbm, 646, rfl⟩
abbrev main_call29_c : Ref sig .tc := ⟨.hbm, 647, rfl⟩
abbrev main_call29_v0 : Ref sig .tc := ⟨.hbm, 648, rfl⟩
abbrev main_call29_v1 : Ref sig .tc := ⟨.hbm, 649, rfl⟩
abbrev main_call29_c_0 : Ref sig .tc := ⟨.hbm, 650, rfl⟩
abbrev main_call29_v2 : Ref sig .tc := ⟨.hbm, 651, rfl⟩
abbrev main_call29_v3 : Ref sig .tc := ⟨.hbm, 652, rfl⟩
abbrev main_call29_v4 : Ref sig .tc := ⟨.hbm, 653, rfl⟩
abbrev main_call29_v5 : Ref sig .tc := ⟨.hbm, 654, rfl⟩
abbrev main_call29_c_1 : Ref sig .tc := ⟨.hbm, 655, rfl⟩
abbrev main_call29_c_2 : Ref sig .tc := ⟨.hbm, 656, rfl⟩
abbrev main_call29_v6 : Ref sig .tc := ⟨.hbm, 657, rfl⟩
abbrev main_call29_v7 : Ref sig .tc := ⟨.hbm, 658, rfl⟩
abbrev main_call29_v8 : Ref sig .tc := ⟨.hbm, 659, rfl⟩
abbrev main_call29_v9 : Ref sig .tc := ⟨.hbm, 660, rfl⟩
abbrev main_call29_v10 : Ref sig .tc := ⟨.hbm, 661, rfl⟩
abbrev main_call29_v11 : Ref sig .tc := ⟨.hbm, 662, rfl⟩
abbrev main_call29_c_3 : Ref sig .tc := ⟨.hbm, 663, rfl⟩
abbrev main_call29_v12 : Ref sig .tc := ⟨.hbm, 664, rfl⟩
abbrev main_call29_v13 : Ref sig .tc := ⟨.hbm, 665, rfl⟩
abbrev main_call29_v14 : Ref sig .tc := ⟨.hbm, 666, rfl⟩
abbrev main_call29_cst : Ref sig .tc := ⟨.hbm, 667, rfl⟩
abbrev main_call29_v15 : Ref sig .tc := ⟨.hbm, 668, rfl⟩
abbrev main_v129 : Ref sig .tc := ⟨.hbm, 669, rfl⟩
abbrev main_v130 : Ref sig .tc := ⟨.hbm, 670, rfl⟩
abbrev main_call30_v0 : Ref sig .tc := ⟨.hbm, 671, rfl⟩
abbrev main_call30_v1 : Ref sig .tc := ⟨.hbm, 672, rfl⟩
abbrev main_call30_cst : Ref sig .tc := ⟨.hbm, 673, rfl⟩
abbrev main_call30_v2 : Ref sig .tc := ⟨.hbm, 674, rfl⟩
abbrev main_call30_v3 : Ref sig .tc := ⟨.hbm, 675, rfl⟩
abbrev main_call30_cst_0 : Ref sig .tc := ⟨.hbm, 676, rfl⟩
abbrev main_call30_v4 : Ref sig .tc := ⟨.hbm, 677, rfl⟩
abbrev main_call30_v5 : Ref sig .tc := ⟨.hbm, 678, rfl⟩
abbrev main_v131 : Ref sig .tc := ⟨.hbm, 679, rfl⟩
abbrev main_v132 : Ref sig .tc := ⟨.hbm, 680, rfl⟩
abbrev main_call31_v0 : Ref sig .tc := ⟨.hbm, 681, rfl⟩
abbrev main_call31_v1 : Ref sig .tc := ⟨.hbm, 682, rfl⟩
abbrev main_call31_cst : Ref sig .tc := ⟨.hbm, 683, rfl⟩
abbrev main_call31_v2 : Ref sig .tc := ⟨.hbm, 684, rfl⟩
abbrev main_call31_v3 : Ref sig .tc := ⟨.hbm, 685, rfl⟩
abbrev main_call31_cst_0 : Ref sig .tc := ⟨.hbm, 686, rfl⟩
abbrev main_call31_v4 : Ref sig .tc := ⟨.hbm, 687, rfl⟩
abbrev main_call31_v5 : Ref sig .tc := ⟨.hbm, 688, rfl⟩
abbrev main_v133 : Ref sig .tc := ⟨.hbm, 689, rfl⟩
abbrev main_v134 : Ref sig .tc := ⟨.hbm, 690, rfl⟩
abbrev main_call32_v0 : Ref sig .tc := ⟨.hbm, 691, rfl⟩
abbrev main_call32_v1 : Ref sig .tc := ⟨.hbm, 692, rfl⟩
abbrev main_call32_cst : Ref sig .tc := ⟨.hbm, 693, rfl⟩
abbrev main_call32_v2 : Ref sig .tc := ⟨.hbm, 694, rfl⟩
abbrev main_call32_v3 : Ref sig .tc := ⟨.hbm, 695, rfl⟩
abbrev main_call32_cst_0 : Ref sig .tc := ⟨.hbm, 696, rfl⟩
abbrev main_call32_v4 : Ref sig .tc := ⟨.hbm, 697, rfl⟩
abbrev main_call32_v5 : Ref sig .tc := ⟨.hbm, 698, rfl⟩
abbrev main_v135 : Ref sig .tc := ⟨.hbm, 699, rfl⟩
abbrev main_v136 : Ref sig .tc := ⟨.hbm, 700, rfl⟩

abbrev nD : Nat := 1
abbrev τ : Topo := Topo.v7x

variable {F : FTy → Type} [FloatOps F]
-- ==== Proof.Maths.lean ====
/- The mathematics of the certificate, over the extended reals and naming no program: the smooth activation, one
   species' perceptron, the same perceptron as the kernel packs it (all species' rows stacked, every weight halved), and
   the radial functions in their two forms. -/
module

public import Idealize.ShloMosaic.PureOps.Ideal
public import Idealize.ShloMosaic.Lib.IdealHost

@[expose] public section

noncomputable section

namespace Cert.Maths

open Idealize.ShloMosaic

/-! ## Finite extended reals -/

/-- The extended real `x` is a real number. -/
def Fin' (x : EReal) : Prop := ∃ r : ℝ, x = (r : EReal)

/-- A real number is finite. -/
theorem fin_coe (r : ℝ) : Fin' (r : EReal) := ⟨r, rfl⟩

/-- A product of finite numbers is finite. -/
theorem fin_mul {x y : EReal} : Fin' x → Fin' y → Fin' (x * y) := by
  rintro ⟨a, rfl⟩ ⟨b, rfl⟩; exact ⟨a * b, (EReal.coe_mul a b).symm⟩

/-- A sum of finite numbers is finite. -/
theorem fin_add {x y : EReal} : Fin' x → Fin' y → Fin' (x + y) := by
  rintro ⟨a, rfl⟩ ⟨b, rfl⟩; exact ⟨a + b, (EReal.coe_add a b).symm⟩

/-- A sum of reals, taken in the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A finite sum of finite terms is finite. -/
theorem fin_sum {ι : Type} (s : Finset ι) (f : ι → EReal) (h : ∀ i, Fin' (f i)) : Fin' (∑ i ∈ s, f i) := by
  choose g hg using h
  exact ⟨∑ i ∈ s, g i, by rw [← coe_sum]; exact Finset.sum_congr rfl fun i _ => hg i⟩

/-! ## The activation -/

/-- `z` times its logistic. -/
def silu (z : EReal) : EReal := z * Ideal.logistic z

/-- The kernel's form of it, of the halved argument. -/
def act (z : EReal) : EReal := z * Ideal.tanh z + z

/-- The activation of a finite number is finite. -/
theorem fin_silu {x : EReal} (h : Fin' x) : Fin' (silu x) := by
  obtain ⟨r, rfl⟩ := h
  exact fin_mul ⟨r, rfl⟩ ⟨_, Ideal.logistic_coe r⟩

/-- Half of `r` times the hyperbolic tangent of the half, plus the half, is `r` times the logistic of `r`. -/
theorem real_half (r : ℝ) : (1 / 2 * r) * Real.tanh (1 / 2 * r) + 1 / 2 * r = r * (1 + Real.exp (-r))⁻¹ := by
  have e1 : Real.exp (-r) = Real.exp (-(1 / 2 * r)) * Real.exp (-(1 / 2 * r)) := by
    rw [← Real.exp_add]; congr 1; ring
  have e2 : Real.exp (1 / 2 * r) * Real.exp (-(1 / 2 * r)) = 1 := by rw [← Real.exp_add]; simp
  rw [Real.tanh_eq_sinh_div_cosh, Real.sinh_eq, Real.cosh_eq, e1]
  generalize Real.exp (-(1 / 2 * r)) = y at *
  have hx : 0 < Real.exp (1 / 2 * r) := Real.exp_pos _
  generalize Real.exp (1 / 2 * r) = x at *
  have hy : 0 < y := by
    by_contra hn
    nlinarith
  have h1 : x + y ≠ 0 := by positivity
  have h2 : 1 + y * y ≠ 0 := by positivity
  field_simp
  linear_combination (2 * r * y) * e2

/-- The kernel's form of the activation, at half a real number, is the activation of that number. -/
theorem act_half (r : ℝ) : act ((1 / 2 * r : ℝ) : EReal) = silu (r : EReal) := by
  unfold act silu
  rw [Ideal.tanh_coe, Ideal.logistic_coe, ← EReal.coe_mul, ← EReal.coe_add, ← EReal.coe_mul, real_half]

/-- One layer of the kernel at finite arguments: the activation's halved form of the sum with halved weights is the
    activation of the sum with the weights themselves. -/
theorem act_layer {n : ℕ} (w x : Fin n → EReal) (hw : ∀ i, Fin' (w i)) (hx : ∀ i, Fin' (x i)) :
    act (∑ i, (((1 / 2 : ℝ) : EReal) * w i) * x i) = silu (∑ i, x i * w i) := by
  choose w' hw using hw
  choose x' hx using hx
  have e1 : (∑ i, (((1 / 2 : ℝ) : EReal) * w i) * x i) = ((1 / 2 * ∑ i, x' i * w' i : ℝ) : EReal) := by
    rw [Finset.mul_sum, ← coe_sum]
    refine Finset.sum_congr rfl fun i _ => ?_
    rw [hw, hx, ← EReal.coe_mul, ← EReal.coe_mul]
    congr 1; ring
  have e2 : (∑ i, x i * w i) = ((∑ i, x' i * w' i : ℝ) : EReal) := by
    rw [← coe_sum]
    exact Finset.sum_congr rfl fun i _ => by rw [hw, hx, ← EReal.coe_mul]
  rw [e1, e2, act_half]

/-! ## One species' perceptron -/

/-- One dense layer without bias: the outputs of the inputs `x` under the weights `w`. -/
def dense {n k : ℕ} (x : Fin n → EReal) (w : Fin n → Fin k → EReal) : Fin k → EReal := fun o => ∑ i, x i * w i o

/-- A dense layer's outputs are finite where its inputs and weights are. -/
theorem fin_dense {n k : ℕ} (x : Fin n → EReal) (w : Fin n → Fin k → EReal) (o : Fin k) (hx : ∀ i, Fin' (x i))
    (hw : ∀ i, Fin' (w i o)) : Fin' (dense x w o) := fin_sum _ _ fun i => fin_mul (hx i) (hw i)

/-- The perceptron of three activated layers and a linear one. -/
def mlp {n k : ℕ} (x : Fin n → EReal) (w1 : Fin n → Fin 32 → EReal) (w2 w3 : Fin 32 → Fin 32 → EReal)
    (w4 : Fin 32 → Fin k → EReal) : Fin k → EReal :=
  dense (fun j => silu (dense (fun i => silu (dense (fun a => silu (dense x w1 a)) w2 i)) w3 j)) w4

/-! ## The perceptron as the kernel packs it -/

/-- Row `k` of species `s` among the stacked 4 · 32 rows. -/
def hid (s : Fin 4) (k : Fin 32) : Fin 128 := ⟨32 * s.val + k.val, by omega⟩

/-- The species of a stacked row. -/
def spOf (p : Fin 128) : Fin 4 := ⟨p.val / 32, by omega⟩

/-- A stacked row's place within its species. -/
def rowOf (p : Fin 128) : Fin 32 := ⟨p.val % 32, by omega⟩

@[simp] theorem spOf_hid (s : Fin 4) (k : Fin 32) : spOf (hid s k) = s := Fin.ext (by simp only [spOf, hid]; omega)
@[simp] theorem rowOf_hid (s : Fin 4) (k : Fin 32) : rowOf (hid s k) = k := Fin.ext (by simp only [rowOf, hid]; omega)
/-- A stacked row is the row of its species and its place. -/
theorem hid_of (p : Fin 128) : hid (spOf p) (rowOf p) = p := Fin.ext (by simp only [spOf, rowOf, hid]; omega)

/-- One where the row is of species `s`, zero elsewhere. -/
def mask (s : Fin 4) (p : Fin 128) : EReal := if spOf p = s then 1 else 0

/-- A sum over the stacked rows in which a factor vanishes off species `s` is the sum over that species' rows. -/
theorem sum_mask (s : Fin 4) (f g : Fin 128 → EReal) :
    (∑ p, f p * (g p * mask s p)) = ∑ k : Fin 32, g (hid s k) * f (hid s k) := by
  classical
  have e : ∀ p : Fin 128, f p * (g p * mask s p) = if spOf p = s then g p * f p else 0 := by
    intro p
    unfold mask
    split
    · rw [mul_one, mul_comm]
    · rw [mul_zero, mul_zero]
  rw [Finset.sum_congr rfl fun p _ => e p, ← Finset.sum_filter]
  symm
  refine Finset.sum_bij (fun k _ => hid s k) (fun k _ => ?_) (fun a _ b _ h => ?_) (fun p hp => ?_) (fun _ _ => rfl)
  · simp
  · have := congrArg rowOf h; simpa using this
  · have hp' : spOf p = s := (Finset.mem_filter.1 hp).2
    exact ⟨rowOf p, Finset.mem_univ _, by rw [← hp', hid_of]⟩

/-- The packed perceptron at output `o` for species `s`: `p1`, `p2`, `p3` the packed layers, `b` the 36 radial
    functions, `p4` the packed row of the last layer. -/
def kmlp (b : Fin 36 → EReal) (p1 : Fin 128 → Fin 36 → EReal) (p2 p3 : Fin 128 → Fin 32 → EReal)
    (p4 : Fin 128 → EReal) (s : Fin 4) : EReal :=
  ∑ p : Fin 128, p4 p * (act (∑ j : Fin 32, p3 p j * act (∑ i : Fin 32, p2 (hid s j) i *
    act (∑ a : Fin 36, p1 (hid s i) a * b a))) * mask s p)

/-- Entry `(a, i)` of the first layer of a perceptron that reads the `n` radial functions from `off` on, laid out
    over all 36 of them. -/
def spread {n : ℕ} (off : ℕ) (w : Fin n → EReal) (a : Fin 36) : EReal :=
  if h : off ≤ a.val ∧ a.val < off + n then w ⟨a.val - off, by omega⟩ else 0

/-- A sum against a spread row is the sum over the radial functions it covers. -/
theorem sum_spread {n : ℕ} (off : ℕ) (h : off + n ≤ 36) (x : Fin 36 → EReal) (w : Fin n → EReal) :
    (∑ a, x a * spread off w a) = ∑ i : Fin n, x ⟨off + i.val, by omega⟩ * w i := by
  classical
  symm
  rw [← Finset.sum_filter_add_sum_filter_not Finset.univ (fun a : Fin 36 => off ≤ a.val ∧ a.val < off + n)]
  rw [Finset.sum_eq_zero (s := Finset.univ.filter fun a : Fin 36 => ¬(off ≤ a.val ∧ a.val < off + n)), add_zero]
  · refine Finset.sum_bij (fun i _ => (⟨off + i.val, by omega⟩ : Fin 36)) (fun i _ => ?_) (fun i _ j _ e => ?_)
      (fun a ha => ?_) (fun i _ => ?_)
    · simp only [Finset.mem_filter, Finset.mem_univ, true_and]; omega
    · have := congrArg Fin.val e; simp only at this; exact Fin.ext (by omega)
    · obtain ⟨h1, h2⟩ := (Finset.mem_filter.1 ha).2
      exact ⟨⟨a.val - off, by omega⟩, Finset.mem_univ _, Fin.ext (by simp only; omega)⟩
    · unfold spread
      rw [dif_pos (by simp only; omega)]
      congr 2
      exact Fin.ext (by simp only; omega)
  · intro a ha
    unfold spread
    rw [dif_neg (Finset.mem_filter.1 ha).2, mul_zero]

/-- Finite weights, extended by zeros to the 36 radial functions, are finite. -/
theorem fin_spread {n : ℕ} (off : ℕ) (w : Fin n → EReal) (hw : ∀ i, Fin' (w i)) (a : Fin 36) : Fin' (spread off w a) := by
  unfold spread
  split
  · exact hw _
  · exact ⟨0, rfl⟩

/-- THE PACKED PERCEPTRON IS THE SPECIES' OWN: with every packed weight half of the weight it stands for, at finite radial
    functions and finite weights of the three activated layers. -/
theorem kmlp_eq {n k : ℕ} (off : ℕ) (h : off + n ≤ 36) (b : Fin 36 → EReal) (p1 : Fin 128 → Fin 36 → EReal)
    (p2 p3 : Fin 128 → Fin 32 → EReal) (p4 : Fin 128 → EReal) (s : Fin 4) (o : Fin k)
    (w1 : Fin 4 → Fin n → Fin 32 → EReal) (w2 w3 : Fin 4 → Fin 32 → Fin 32 → EReal) (w4 : Fin 4 → Fin 32 → Fin k → EReal)
    (hb : ∀ a, Fin' (b a)) (f1 : ∀ s a i, Fin' (w1 s a i)) (f2 : ∀ s a i, Fin' (w2 s a i)) (f3 : ∀ s a i, Fin' (w3 s a i))
    (h1 : ∀ p a, p1 p a = ((1 / 2 : ℝ) : EReal) * spread off (fun a' => w1 (spOf p) a' (rowOf p)) a)
    (h2 : ∀ p i, p2 p i = ((1 / 2 : ℝ) : EReal) * w2 (spOf p) i (rowOf p))
    (h3 : ∀ p i, p3 p i = ((1 / 2 : ℝ) : EReal) * w3 (spOf p) i (rowOf p))
    (h4 : ∀ p, p4 p = w4 (spOf p) (rowOf p) o) :
    kmlp b p1 p2 p3 p4 s = mlp (fun a => b ⟨off + a.val, by omega⟩) (w1 s) (w2 s) (w3 s) (w4 s) o := by
  have l1 : ∀ i, act (∑ a : Fin 36, p1 (hid s i) a * b a)
      = silu (dense (fun a : Fin n => b ⟨off + a.val, by omega⟩) (w1 s) i) := by
    intro i
    simp only [h1, spOf_hid, rowOf_hid]
    rw [act_layer _ _ (fin_spread off _ fun a => f1 s a i) hb, sum_spread off h]
    rfl
  have d1 : ∀ i, Fin' (silu (dense (fun a : Fin n => b ⟨off + a.val, by omega⟩) (w1 s) i)) :=
    fun i => fin_silu (fin_dense _ _ _ (fun _ => hb _) fun _ => f1 _ _ _)
  have l2 : ∀ j, act (∑ i : Fin 32, p2 (hid s j) i * act (∑ a : Fin 36, p1 (hid s i) a * b a))
      = silu (dense (fun i => silu (dense (fun a : Fin n => b ⟨off + a.val, by omega⟩) (w1 s) i)) (w2 s) j) := by
    intro j
    simp only [l1, h2, spOf_hid, rowOf_hid]
    rw [act_layer _ _ (fun i => f2 s i j) d1]
    rfl
  have d2 : ∀ j, Fin' (silu (dense (fun i => silu (dense (fun a : Fin n => b ⟨off + a.val, by omega⟩) (w1 s) i)) (w2 s) j)) :=
    fun j => fin_silu (fin_dense _ _ _ d1 fun _ => f2 _ _ _)
  unfold kmlp
  rw [sum_mask]
  simp only [l2, h3, h4, spOf_hid, rowOf_hid]
  unfold mlp
  rw [dense]
  refine Finset.sum_congr rfl fun q _ => ?_
  rw [act_layer _ _ (fun i => f3 s i q) d2]
  rfl

end Cert.Maths

end
-- ==== Proof.Pack.lean ====
/- The stacked weights that the host code builds, entry by entry. -/
module
public import proofs.«01_k».proof.Proof.Gen.KernelIdeal.Frame
public import proofs.«01_k».proof.Proof.Maths
public import Idealize.ShloMosaic.Lib.Pointwise
public import Idealize.ShloMosaic.Lib.Pipeline.ValueKit
public import Idealize.ShloMosaic.Lib.Claim
public import Idealize.ShloMosaic.Lib.StableHlo.RunRead
public import Idealize.ShloMosaic.Lib.StableHlo.ReadAt
public import Idealize.ShloMosaic.Lib.Routing.OpsSet
@[expose] public section
set_option maxRecDepth 16384
noncomputable section
open Idealize.ShloMosaic Idealize.ShloMosaic.TcCoe Idealize.SL.Sem
open Idealize.ShloMosaic.Pipeline (Dat)
open Cert.KernelIdeal Cert.KernelIdeal.Gen
variable (m : (ℓ : Loc nD τ sig) → Buf (Elt Ideal) ℓ)
namespace Cert.Pack
open Cert.Maths

/-- Setting a window of `n` whole rows of a 36-row table from row `off` on: a row inside the window reads the update, any
    other row the table. -/
theorem scatter_rows {n : ℕ} (wf) (x0 : FVec Ideal ⟨2, ![36, 128]⟩ .f32) (idx : IVec ⟨1, ![1]⟩ 32)
    (upd : FVec Ideal ⟨2, ![n, 128]⟩ .f32) (off : ℕ) (h : off + n ≤ 36) (hidx : ∀ j, (idx j).toInt = (off : Int))
    (a : Fin 36) (p : Fin 128) :
    Host.scatter (⟨[0, 1], [], [0], 0, wf⟩ : ScatterDims ⟨2, ![36, 128]⟩ ⟨1, ![1]⟩ ⟨2, ![n, 128]⟩) (fun _ b => b) x0 idx upd
        (ix2 a p)
      = if h : off ≤ a.val ∧ a.val < off + n then upd (ix2 ⟨a.val - off, by omega⟩ p) else x0 (ix2 a p) := by
  have key : ∀ k : (⟨2, ![n, 128]⟩ : Shape).Idx,
      (⟨[0, 1], [], [0], 0, wf⟩ : ScatterDims ⟨2, ![36, 128]⟩ ⟨1, ![1]⟩ ⟨2, ![n, 128]⟩).resultIdx? k idx = some (ix2 a p)
        ↔ off + (k 0).val = a.val ∧ (k 1).val = p.val := by
    intro k
    rw [Routing.resultIdx?_eq_some]
    have s0 : (⟨[0, 1], [], [0], 0, wf⟩ : ScatterDims ⟨2, ![36, 128]⟩ ⟨1, ![1]⟩ ⟨2, ![n, 128]⟩).start k idx 0 = (off : Int) := by
      unfold ScatterDims.start
      rw [dif_pos (List.mem_singleton.2 rfl)]
      exact hidx _
    have s1 : (⟨[0, 1], [], [0], 0, wf⟩ : ScatterDims ⟨2, ![36, 128]⟩ ⟨1, ![1]⟩ ⟨2, ![n, 128]⟩).start k idx 1 = 0 := by
      unfold ScatterDims.start
      rw [dif_neg fun q => absurd (List.mem_singleton.1 q) (by decide)]
    have w0 : (⟨[0, 1], [], [0], 0, wf⟩ : ScatterDims ⟨2, ![36, 128]⟩ ⟨1, ![1]⟩ ⟨2, ![n, 128]⟩).window k 0 = (k 0).val := rfl
    have w1 : (⟨[0, 1], [], [0], 0, wf⟩ : ScatterDims ⟨2, ![36, 128]⟩ ⟨1, ![1]⟩ ⟨2, ![n, 128]⟩).window k 1 = (k 1).val := rfl
    constructor
    · intro q
      have q0 := q 0
      have q1 := q 1
      rw [s0, w0] at q0
      rw [s1, w1] at q1
      have e0 : ((ix2 a p : (⟨2, ![36, 128]⟩ : Shape).Idx) 0).val = a.val := rfl
      have e1 : ((ix2 a p : (⟨2, ![36, 128]⟩ : Shape).Idx) 1).val = p.val := rfl
      omega
    · rintro ⟨q0, q1⟩ b
      match b with
      | ⟨0, _⟩ => exact (congrArg₂ (· + ·) s0 (congrArg _ w0)).trans (by exact_mod_cast q0)
      | ⟨1, _⟩ => exact (congrArg₂ (· + ·) s1 (congrArg _ w1)).trans (by rw [zero_add]; exact_mod_cast q1)
  split
  · next hb =>
    refine Routing.scatter_set_hit _ x0 idx upd _ _ (fun k hk => ?_) (ix2 ⟨a.val - off, by omega⟩ p) ((key _).2 ⟨?_, rfl⟩)
    · obtain ⟨k0, k1⟩ := (key k).1 hk
      congr 1
      funext b
      match b with
      | ⟨0, _⟩ => exact Fin.ext (by show (k 0).val = a.val - off; omega)
      | ⟨1, _⟩ => exact Fin.ext k1
    · show off + (a.val - off) = a.val
      omega
  · next hb =>
    refine Routing.scatter_set_miss _ x0 idx upd _ fun k hk => hb ?_
    obtain ⟨k0, k1⟩ := (key k).1 hk
    have : (k 0).val < n := (k 0).isLt
    omega

/-- The literal one half. -/
theorem ofBits_half : Ideal.ofBits .f32 0x3F000000#32 = ((1 / 2 : ℝ) : EReal) := by
  simp [Ideal.ofBits, Ideal.ieee, -EReal.coe_mul]; norm_num

/-! ## The stacked weight buffers -/

/-- The stacked buffer is its four tables one after the other. -/
theorem stack_v118 (c : Dev nD) : (V m c main_call0_v118 : FVec Ideal S4x128x36 .f32) = concatenate S4x128x36 0
    [⟨S1x128x36, (V m c main_call0_v114 : FVec Ideal S1x128x36 .f32)⟩,
      ⟨S1x128x36, (V m c main_call0_v115 : FVec Ideal S1x128x36 .f32)⟩,
      ⟨S1x128x36, (V m c main_call0_v116 : FVec Ideal S1x128x36 .f32)⟩,
      ⟨S1x128x36, (V m c main_call0_v117 : FVec Ideal S1x128x36 .f32)⟩]
    concatenates_S1x128x36_S1x128x36_S1x128x36_S1x128x36_S4x128x36_d0 := by
  have h0 : V m c main_call0_v114 = StableHlo.upto hostOps0 (fun b => m (c, b)) 147 (Proc.tc.devRef main_call0_v114) := by
    unfold V V0
    simp only [List.flatten_cons, List.flatten_nil, List.append_nil]
    after_reads_simp
  have h1 : V m c main_call0_v115 = StableHlo.upto hostOps0 (fun b => m (c, b)) 147 (Proc.tc.devRef main_call0_v115) := by
    unfold V V0
    simp only [List.flatten_cons, List.flatten_nil, List.append_nil]
    after_reads_simp
  have h2 : V m c main_call0_v116 = StableHlo.upto hostOps0 (fun b => m (c, b)) 147 (Proc.tc.devRef main_call0_v116) := by
    unfold V V0
    simp only [List.flatten_cons, List.flatten_nil, List.append_nil]
    after_reads_simp
  have h3 : V m c main_call0_v117 = StableHlo.upto hostOps0 (fun b => m (c, b)) 147 (Proc.tc.devRef main_call0_v117) := by
    unfold V V0
    simp only [List.flatten_cons, List.flatten_nil, List.append_nil]
    after_reads_simp
  rw [h0, h1, h2, h3]
  unfold V V0
  simp only [List.flatten_cons, List.flatten_nil, List.append_nil]
  apply Eq.trans
  · after_reads_simp
    rfl
  · generalize StableHlo.upto hostOps0 (fun b => m (c, b)) 147 = U
    rfl

/-- The stacked buffer is its four tables one after the other. -/
theorem stack_v123 (c : Dev nD) : (V m c main_call0_v123 : FVec Ideal S4x128x32 .f32) = concatenate S4x128x32 0
    [⟨S1x128x32, (V m c main_call0_v119 : FVec Ideal S1x128x32 .f32)⟩,
      ⟨S1x128x32, (V m c main_call0_v120 : FVec Ideal S1x128x32 .f32)⟩,
      ⟨S1x128x32, (V m c main_call0_v121 : FVec Ideal S1x128x32 .f32)⟩,
      ⟨S1x128x32, (V m c main_call0_v122 : FVec Ideal S1x128x32 .f32)⟩]
    concatenates_S1x128x32_S1x128x32_S1x128x32_S1x128x32_S4x128x32_d0 := by
  have h0 : V m c main_call0_v119 = StableHlo.upto hostOps0 (fun b => m (c, b)) 152 (Proc.tc.devRef main_call0_v119) := by
    unfold V V0
    simp only [List.flatten_cons, List.flatten_nil, List.append_nil]
    after_reads_simp
  have h1 : V m c main_call0_v120 = StableHlo.upto hostOps0 (fun b => m (c, b)) 152 (Proc.tc.devRef main_call0_v120) := by
    unfold V V0
    simp only [List.flatten_cons, List.flatten_nil, List.append_nil]
    after_reads_simp
  have h2 : V m c main_call0_v121 = StableHlo.upto hostOps0 (fun b => m (c, b)) 152 (Proc.tc.devRef main_call0_v121) := by
    unfold V V0
    simp only [List.flatten_cons, List.flatten_nil, List.append_nil]
    after_reads_simp
  have h3 : V m c main_call0_v122 = StableHlo.upto hostOps0 (fun b => m (c, b)) 152 (Proc.tc.devRef main_call0_v122) := by
    unfold V V0
    simp only [List.flatten_cons, List.flatten_nil, List.append_nil]
    after_reads_simp
  rw [h0, h1, h2, h3]
  unfold V V0
  simp only [List.flatten_cons, List.flatten_nil, List.append_nil]
  apply Eq.trans
  · after_reads_simp
    rfl
  · generalize StableHlo.upto hostOps0 (fun b => m (c, b)) 152 = U
    rfl

/-- The stacked buffer is its four tables one after the other. -/
theorem stack_v128 (c : Dev nD) : (V m c main_call0_v128 : FVec Ideal S4x128x32 .f32) = concatenate S4x128x32 0
    [⟨S1x128x32, (V m c main_call0_v124 : FVec Ideal S1x128x32 .f32)⟩,
      ⟨S1x128x32, (V m c main_call0_v125 : FVec Ideal S1x128x32 .f32)⟩,
      ⟨S1x128x32, (V m c main_call0_v126 : FVec Ideal S1x128x32 .f32)⟩,
      ⟨S1x128x32, (V m c main_call0_v127 : FVec Ideal S1x128x32 .f32)⟩]
    concatenates_S1x128x32_S1x128x32_S1x128x32_S1x128x32_S4x128x32_d0 := by
  have h0 : V m c main_call0_v124 = StableHlo.upto hostOps0 (fun b => m (c, b)) 157 (Proc.tc.devRef main_call0_v124) := by
    unfold V V0
    simp only [List.flatten_cons, List.flatten_nil, List.append_nil]
    after_reads_simp
  have h1 : V m c main_call0_v125 = StableHlo.upto hostOps0 (fun b => m (c, b)) 157 (Proc.tc.devRef main_call0_v125) := by
    unfold V V0
    simp only [List.flatten_cons, List.flatten_nil, List.append_nil]
    after_reads_simp
  have h2 : V m c main_call0_v126 = StableHlo.upto hostOps0 (fun b => m (c, b)) 157 (Proc.tc.devRef main_call0_v126) := by
    unfold V V0
    simp only [List.flatten_cons, List.flatten_nil, List.append_nil]
    after_reads_simp
  have h3 : V m c main_call0_v127 = StableHlo.upto hostOps0 (fun b => m (c, b)) 157 (Proc.tc.devRef main_call0_v127) := by
    unfold V V0
    simp only [List.flatten_cons, List.flatten_nil, List.append_nil]
    after_reads_simp
  rw [h0, h1, h2, h3]
  unfold V V0
  simp only [List.flatten_cons, List.flatten_nil, List.append_nil]
  apply Eq.trans
  · after_reads_simp
    rfl
  · generalize StableHlo.upto hostOps0 (fun b => m (c, b)) 157 = U
    rfl

/-- The stacked buffer is its four tables one after the other. -/
theorem stack_v133 (c : Dev nD) : (V m c main_call0_v133 : FVec Ideal S4x12x128 .f32) = concatenate S4x12x128 0
    [⟨S1x12x128, (V m c main_call0_v129 : FVec Ideal S1x12x128 .f32)⟩,
      ⟨S1x12x128, (V m c main_call0_v130 : FVec Ideal S1x12x128 .f32)⟩,
      ⟨S1x12x128, (V m c main_call0_v131 : FVec Ideal S1x12x128 .f32)⟩,
      ⟨S1x12x128, (V m c main_call0_v132 : FVec Ideal S1x12x128 .f32)⟩]
    concatenates_S1x12x128_S1x12x128_S1x12x128_S1x12x128_S4x12x128_d0 := by
  have h0 : V m c main_call0_v129 = StableHlo.upto hostOps0 (fun b => m (c, b)) 162 (Proc.tc.devRef main_call0_v129) := by
    unfold V V0
    simp only [List.flatten_cons, List.flatten_nil, List.append_nil]
    after_reads_simp
  have h1 : V m c main_call0_v130 = StableHlo.upto hostOps0 (fun b => m (c, b)) 162 (Proc.tc.devRef main_call0_v130) := by
    unfold V V0
    simp only [List.flatten_cons, List.flatten_nil, List.append_nil]
    after_reads_simp
  have h2 : V m c main_call0_v131 = StableHlo.upto hostOps0 (fun b => m (c, b)) 162 (Proc.tc.devRef main_call0_v131) := by
    unfold V V0
    simp only [List.flatten_cons, List.flatten_nil, List.append_nil]
    after_reads_simp
  have h3 : V m c main_call0_v132 = StableHlo.upto hostOps0 (fun b => m (c, b)) 162 (Proc.tc.devRef main_call0_v132) := by
    unfold V V0
    simp only [List.flatten_cons, List.flatten_nil, List.append_nil]
    after_reads_simp
  rw [h0, h1, h2, h3]
  unfold V V0
  simp only [List.flatten_cons, List.flatten_nil, List.append_nil]
  apply Eq.trans
  · after_reads_simp
    rfl
  · generalize StableHlo.upto hostOps0 (fun b => m (c, b)) 162 = U
    rfl

/-- The angular momentum `l` with its `n` radial functions from `off` on among the 36. -/
def Shell (l : Fin 4) (n off : ℕ) : Prop :=
  (l = 0 ∧ n = 12 ∧ off = 0) ∨ (l = 1 ∧ n = 10 ∧ off = 12) ∨ (l = 2 ∧ n = 8 ∧ off = 22) ∨ (l = 3 ∧ n = 6 ∧ off = 30)

/-- A shell's radial functions lie among the 36. -/
theorem Shell.cover {l : Fin 4} {n off : ℕ} (h : Shell l n off) : off + n ≤ 36 := by
  rcases h with h | h | h | h <;> omega

/-- A shell has at most 12 radial functions. -/
theorem Shell.le {l : Fin 4} {n off : ℕ} (h : Shell l n off) : n ≤ 12 := by
  rcases h with h | h | h | h <;> omega

/-- The word of a small number, read with its sign, is that number. -/
theorem toInt_small {k : ℕ} (h : k < 64) : (BitVec.ofNat 32 k).toInt = (k : Int) := by
  rw [BitVec.toInt_eq_toNat_cond, BitVec.toNat_ofNat]
  omega

/-- The word zero becomes the number zero. -/
theorem sitofp_zero : FloatOps.sitofp (F := Ideal) .f32 (0#32) = (0 : EReal) := by
  show (((0#32 : BitVec 32).toInt : ℝ) : EReal) = 0
  simp

/-- Entry `(l, p, i)` of the stacked table is half the weight of input `i` of the stacked row's species and place. -/
theorem w2_at (c : Dev nD) (l : Fin 4) (p : Fin 128) (i : Fin 32) :
    (V m c main_call0_v123 : FVec Ideal S4x128x32 .f32) (ix3 l p i)
      = ((1 / 2 : ℝ) : EReal) * (m (c.tc.loc main_arg5) : FVec Ideal S4x4x32x32 .f32) (ix4 l (spOf p) i (rowOf p)) := by
  rw [stack_v123, ← ofBits_half]
  fin_cases l
  all_goals
    pointwise
    unfold V V0
    simp only [List.flatten_cons, List.flatten_nil, List.append_nil]
    after_reads_at
    rfl

/-- Entry `(l, p, i)` of the stacked table is half the weight of input `i` of the stacked row's species and place. -/
theorem w3_at (c : Dev nD) (l : Fin 4) (p : Fin 128) (i : Fin 32) :
    (V m c main_call0_v128 : FVec Ideal S4x128x32 .f32) (ix3 l p i)
      = ((1 / 2 : ℝ) : EReal) * (m (c.tc.loc main_arg6) : FVec Ideal S4x4x32x32 .f32) (ix4 l (spOf p) i (rowOf p)) := by
  rw [stack_v128, ← ofBits_half]
  fin_cases l
  all_goals
    pointwise
    unfold V V0
    simp only [List.flatten_cons, List.flatten_nil, List.append_nil]
    after_reads_at
    rfl

/-- Entry `(l, p, a)` of the stacked first layers is half the weight of radial function `a` where angular momentum `l`
    reads it, and zero elsewhere. -/
theorem w1_at (c : Dev nD) {l : Fin 4} {n off : ℕ} (h : Shell l n off) (p : Fin 128) (a : Fin 36) :
    (V m c main_call0_v118 : FVec Ideal S4x128x36 .f32) (ix3 l p a)
      = ((1 / 2 : ℝ) : EReal) * spread off (fun a' : Fin n => (m (c.tc.loc main_arg4) : FVec Ideal S4x4x12x32 .f32)
          (ix4 l (spOf p) ⟨a'.val, lt_of_lt_of_le a'.isLt h.le⟩ (rowOf p))) a := by
  rw [stack_v118, ← ofBits_half]
  rcases h with ⟨rfl, rfl, rfl⟩ | ⟨rfl, rfl, rfl⟩ | ⟨rfl, rfl, rfl⟩ | ⟨rfl, rfl, rfl⟩
  all_goals
    pointwise
    unfold V V0
    simp only [List.flatten_cons, List.flatten_nil, List.append_nil]
    after_reads_at
    refine congrArg _ ((scatter_rows _ _ _ _ _ (by decide) (fun _ => toInt_small (by decide)) a p).trans ?_)
    unfold spread
    refine dite_congr rfl (fun _ => rfl) (fun _ => Ideal.ofBits_zero_f32)

/-- Entry `(l, o, p)` of the stacked last layers is the weight of output `o` of the stacked row's species and place. -/
theorem w4_at (c : Dev nD) {l : Fin 4} {n off : ℕ} (h : Shell l n off) (p : Fin 128) (o : Fin n) :
    (V m c main_call0_v133 : FVec Ideal S4x12x128 .f32) (ix3 l ⟨o.val, lt_of_lt_of_le o.isLt h.le⟩ p)
      = (m (c.tc.loc main_arg7) : FVec Ideal S4x4x32x12 .f32)
          (ix4 l (spOf p) (rowOf p) ⟨o.val, lt_of_lt_of_le o.isLt h.le⟩) := by
  rw [stack_v133]
  rcases h with ⟨rfl, rfl, rfl⟩ | ⟨rfl, rfl, rfl⟩ | ⟨rfl, rfl, rfl⟩ | ⟨rfl, rfl, rfl⟩
  all_goals
    pointwise
    unfold V V0
    simp only [List.flatten_cons, List.flatten_nil, List.append_nil]
    after_reads_at
    first | rfl | (rw [dif_pos o.isLt]; rfl)

/-- Entry `(t, 0, q)` of the distances in blocks is edge `t · 3200 + q`'s. -/
theorem r_at (c : Dev nD) (t : Fin 50) (q : Fin 3200) :
    (V m c main_call0_v134 : FVec Ideal S50x1x3200 .f32) (ix3 t 0 q)
      = (m (c.tc.loc main_arg0) : FVec Ideal S160000 .f32) (ix1 ⟨t.val * 3200 + q.val, by omega⟩) := by
  unfold V V0
  simp only [List.flatten_cons, List.flatten_nil, List.append_nil]
  after_reads_at

/-- Entry `(t, 0, q)` of the species in blocks is edge `t · 3200 + q`'s. -/
theorem sp_at (c : Dev nD) (t : Fin 50) (q : Fin 3200) :
    (V m c main_call0_v135 : IVec S50x1x3200 32) (ix3 t 0 q)
      = (m (c.tc.loc main_arg1) : IVec S160000 32) (ix1 ⟨t.val * 3200 + q.val, by omega⟩) := by
  unfold V V0
  simp only [List.flatten_cons, List.flatten_nil, List.append_nil]
  after_reads_at

end Cert.Pack
-- ==== Proof.Block.lean ====
/- One grid step: what the kernel's body computes of a block of 3200 edges, entry by entry. -/
module
public import proofs.«01_k».proof.Proof.Gen.KernelIdeal.Frame
public import proofs.«01_k».proof.Proof.Maths
public import Idealize.ShloMosaic.Lib.Pointwise
public import Idealize.ShloMosaic.Lib.Pipeline.ValueKit
public import Idealize.ShloMosaic.Lib.WordCmp
@[expose] public section
set_option maxRecDepth 16384
noncomputable section
open Idealize.ShloMosaic Idealize.ShloMosaic.TcCoe Idealize.SL.Sem
open Idealize.ShloMosaic.Pipeline (Dat)
open Cert.KernelIdeal Cert.KernelIdeal.Gen
namespace Cert.Block
open Cert.Maths

/-! ## One grid point's arithmetic, angular momentum by angular momentum -/

/-- The rows of each edge's own species among the 4 · 32 stacked rows. -/
def pick (m0 m1 m2 : IVec S1x3200 1) (z : FVec Ideal S128x3200 .f32) : FVec Ideal S32x3200 .f32 :=
  select (broadcastTo S32x3200 (shapeCast S1x3200 m0 shapeCasts_S1x3200_S1x3200) broadcasts_S1x3200_S32x3200)
    (extractStridedSlice S32x3200 ![0, 0] z slices_S128x3200_o0_0_S32x3200)
    (select (broadcastTo S32x3200 (shapeCast S1x3200 m1 shapeCasts_S1x3200_S1x3200) broadcasts_S1x3200_S32x3200)
      (extractStridedSlice S32x3200 ![32, 0] z slices_S128x3200_o32_0_S32x3200)
      (select (broadcastTo S32x3200 (shapeCast S1x3200 m2 shapeCasts_S1x3200_S1x3200) broadcasts_S1x3200_S32x3200)
        (extractStridedSlice S32x3200 ![64, 0] z slices_S128x3200_o64_0_S32x3200)
        (extractStridedSlice S32x3200 ![96, 0] z slices_S128x3200_o96_0_S32x3200)))

/-- The activation in its halved form, over a block. -/
def gate {S : Shape} (z : FVec Ideal S .f32) : FVec Ideal S .f32 := addf (mulf z (tanh z)) z

/-- The first stacked layer over a block of edges. -/
def layer1 (w1 : FVec Ideal S1x128x36 .f32) (b : FVec Ideal S36x3200 .f32) : FVec Ideal S128x3200 .f32 :=
  matmul dot_S128x36_S36x3200_S128x3200_1_0_0_1_n_n none (shapeCast S128x36 w1 shapeCasts_S1x128x36_S128x36) b
    (constant S128x3200 .f32 0x00000000#32)

/-- A later stacked layer over a block of edges. -/
def layer (w : FVec Ideal S1x128x32 .f32) (h : FVec Ideal S32x3200 .f32) : FVec Ideal S128x3200 .f32 :=
  matmul dot_S128x32_S32x3200_S128x3200_1_0_0_1_n_n none (shapeCast S128x32 w shapeCasts_S1x128x32_S128x32) h
    (constant S128x3200 .f32 0x00000000#32)

/-- The last stacked layer over a block of edges: all twelve padded outputs. -/
def layer4 (w : FVec Ideal S1x12x128 .f32) (h : FVec Ideal S128x3200 .f32) : FVec Ideal S12x3200 .f32 :=
  matmul dot_S12x128_S128x3200_S12x3200_1_0_0_1_n_n none (shapeCast S12x128 w shapeCasts_S1x12x128_S12x128) h
    (constant S12x3200 .f32 0x00000000#32)

/-- One angular momentum's network over a block of edges. -/
def net (b : FVec Ideal S36x3200 .f32) (mk : FVec Ideal S128x3200 .f32) (m0 m1 m2 : IVec S1x3200 1)
    (w1 : FVec Ideal S1x128x36 .f32) (w2 w3 : FVec Ideal S1x128x32 .f32) (w4 : FVec Ideal S1x12x128 .f32) :
    FVec Ideal S12x3200 .f32 :=
  layer4 w4 (mulf (gate (layer w3 (gate (pick m0 m1 m2 (layer w2 (gate (pick m0 m1 m2 (layer1 w1 b)))))))) mk)

section
variable (b : FVec Ideal S36x3200 .f32) (mk : FVec Ideal S128x3200 .f32) (m0 m1 m2 : IVec S1x3200 1)
    (w1 : FVec Ideal S1x128x36 .f32) (w2 w3 : FVec Ideal S1x128x32 .f32) (w4 : FVec Ideal S1x12x128 .f32)

/-- What the kernel stores for angular momentum 0. -/
theorem net_0 : k0_pay12 (F := Ideal) mk m0 m1 m2 (k0_pay8 b w1) (k0_pay9 b w1) (k0_pay10 b w1) (k0_pay11 b w1) w2 w3 w4
    = net b mk m0 m1 m2 w1 w2 w3 w4 := rfl

/-- What the kernel stores for angular momentum 1. -/
theorem net_1 : k0_pay15 (F := Ideal) (k0_pay13 w4) (k0_pay14 b mk m0 m1 m2 w1 w2 w3)
    = extractStridedSlice S10x3200 ![0, 0] (net b mk m0 m1 m2 w1 w2 w3 w4) slices_S12x3200_o0_0_S10x3200 := rfl

/-- What the kernel stores for angular momentum 2. -/
theorem net_2 : k0_pay17 (F := Ideal) mk (k0_pay16 b m0 m1 m2 w1 w2 w3) w4
    = extractStridedSlice S8x3200 ![0, 0] (net b mk m0 m1 m2 w1 w2 w3 w4) slices_S12x3200_o0_0_S8x3200 := rfl

/-- What the kernel stores for angular momentum 3. -/
theorem net_3 : k0_pay1 (F := Ideal) mk (k0_pay18 b m0 m1 m2 w1 w2) (k0_pay19 b m0 m1 m2 w1 w2) w3 w4
    = extractStridedSlice S6x3200 ![0, 0] (net b mk m0 m1 m2 w1 w2 w3 w4) slices_S12x3200_o0_0_S6x3200 := rfl

/-- The species `s` as the kernel's three selectors at edge `q` state it. -/
def Sel (q : Fin 3200) (s : Fin 4) : Prop :=
  m0 (ix2 0 q) = BitVec.ofBool (decide (s = 0)) ∧ m1 (ix2 0 q) = BitVec.ofBool (decide (s = 1))
    ∧ m2 (ix2 0 q) = BitVec.ofBool (decide (s = 2))

variable {m0 m1 m2}

/-- At an edge of species `s` the picked row `k` is the stacked row of species `s` at place `k`. -/
theorem pick_at {q : Fin 3200} {s : Fin 4} (h : Sel m0 m1 m2 q s) (z : FVec Ideal S128x3200 .f32) (k : Fin 32) :
    pick m0 m1 m2 z (ix2 k q) = z (ix2 (hid s k) q) := by
  obtain ⟨h0, h1, h2⟩ := h
  pointwise [pick]
  rw [h0, h1, h2]
  fin_cases s
  all_goals
    refine congrArg z ?_
    refine congrArg (fun r : Fin 128 => (ix2 r q : S128x3200.Idx)) (Fin.ext ?_)
    simp [hid]
  all_goals omega
end

/-- The gate, entry by entry, is the kernel's form of the activation. -/
theorem gate_at {S : Shape} (z : FVec Ideal S .f32) (i : S.Idx) : gate z i = act (z i) := rfl

/-- An entry of the first layer is the sum over the 36 radial functions of weight times radial function. -/
theorem layer1_at (w1 : FVec Ideal S1x128x36 .f32) (b : FVec Ideal S36x3200 .f32) (p : Fin 128) (q : Fin 3200) :
    layer1 w1 b (ix2 p q) = ∑ a : Fin 36, w1 (ix3 0 p a) * b (ix2 a q) := by
  pointwise [layer1]

/-- An entry of a hidden layer is the sum over its 32 inputs of weight times input. -/
theorem layer_at (w : FVec Ideal S1x128x32 .f32) (h : FVec Ideal S32x3200 .f32) (p : Fin 128) (q : Fin 3200) :
    layer w h (ix2 p q) = ∑ i : Fin 32, w (ix3 0 p i) * h (ix2 i q) := by
  pointwise [layer]

/-- An entry of the last layer is the sum over the 128 stacked hidden values of weight times value. -/
theorem layer4_at (w : FVec Ideal S1x12x128 .f32) (h : FVec Ideal S128x3200 .f32) (o : Fin 12) (q : Fin 3200) :
    layer4 w h (ix2 o q) = ∑ p : Fin 128, w (ix3 0 o p) * h (ix2 p q) := by
  pointwise [layer4]

section
variable (b : FVec Ideal S36x3200 .f32) (mk : FVec Ideal S128x3200 .f32) {m0 m1 m2 : IVec S1x3200 1}
    (w1 : FVec Ideal S1x128x36 .f32) (w2 w3 : FVec Ideal S1x128x32 .f32) (w4 : FVec Ideal S1x12x128 .f32)

/-- ONE ANGULAR MOMENTUM AT AN EDGE: output `o` of the block's network at an edge of species `s` is the packed perceptron
    of that edge's radial functions. -/
theorem net_at {q : Fin 3200} {s : Fin 4} (h : Sel m0 m1 m2 q s) (hm : ∀ p, mk (ix2 p q) = mask s p) (o : Fin 12) :
    net b mk m0 m1 m2 w1 w2 w3 w4 (ix2 o q)
      = kmlp (fun a => b (ix2 a q)) (fun p a => w1 (ix3 0 p a)) (fun p i => w2 (ix3 0 p i)) (fun p i => w3 (ix3 0 p i))
          (fun p => w4 (ix3 0 o p)) s := by
  unfold net kmlp
  rw [layer4_at]
  refine Finset.sum_congr rfl fun p _ => congrArg _ ?_
  show gate _ (ix2 p q) * mk (ix2 p q) = _
  rw [hm, gate_at, layer_at]
  simp only [gate_at, pick_at h, layer_at, layer1_at]
end

/-! ## The species' words -/

/-- The row's species as the kernel computes it from the row number: the quotient by 32. -/
theorem row_species (p : Fin 128) :
    (Scalar.select
      (IntOp.andi
        (IntOp.cmpi CmpIPredicate.ne
          (IntOp.subi (BitVec.setWidth 32 (IntOp.cmpi CmpIPredicate.sgt (BitVec.ofNat 32 p.val) 0#32))
            (BitVec.setWidth 32 (IntOp.cmpi CmpIPredicate.slt (BitVec.ofNat 32 p.val) 0#32)))
          (Scalar.subi (Scalar.extui (Scalar.cmpi CmpIPredicate.sgt 32#32 0#32))
            (Scalar.extui (Scalar.cmpi CmpIPredicate.slt 32#32 0#32))))
        (IntOp.cmpi CmpIPredicate.ne (IntOp.remsi ArithUnit.vector (BitVec.ofNat 32 p.val) 32#32) 0#32))
      (IntOp.subi (IntOp.divsi ArithUnit.vector (BitVec.ofNat 32 p.val) 32#32) 1#32)
      (IntOp.divsi ArithUnit.vector (BitVec.ofNat 32 p.val) 32#32) : BitVec 32) = BitVec.ofNat 32 (p.val / 32) := by
  revert p
  decide +kernel

/-- The mask at row `p` of an edge of species `s` is one exactly on that species' rows. -/
theorem mask_at (v : IVec S1x1x3200 32) (q : Fin 3200) (s : Fin 4) (hs : v (ix3 0 0 q) = BitVec.ofNat 32 s.val) (p : Fin 128) :
    k0_pay4 (F := Ideal) v (ix2 p q) = mask s p := by
  pointwise [k0_pay4, k0_pay3]
  refine (congrArg (fun w : BitVec 32 => FloatOps.sitofp (F := Ideal) .f32
    (BitVec.setWidth 32 (IntOp.cmpi CmpIPredicate.eq w (v (ix3 0 0 q))))) (row_species p)).trans ?_
  rw [hs]
  have key : ∀ (t s : Fin 4), (BitVec.setWidth 32 (IntOp.cmpi CmpIPredicate.eq (BitVec.ofNat 32 t.val) (BitVec.ofNat 32 s.val))).toInt
      = if t = s then 1 else 0 := by decide +kernel
  show ((((BitVec.setWidth 32 (IntOp.cmpi CmpIPredicate.eq (BitVec.ofNat 32 (spOf p).val) (BitVec.ofNat 32 s.val))).toInt : ℤ) : ℝ)
    : EReal) = mask s p
  rw [key]
  unfold mask
  split <;> simp

/-- The kernel's three selectors at an edge of species `s`. -/
theorem sel_at (v : IVec S1x1x3200 32) (q : Fin 3200) (s : Fin 4) (hs : v (ix3 0 0 q) = BitVec.ofNat 32 s.val) :
    Sel (k0_pay5 (F := Ideal) v) (k0_pay6 (F := Ideal) v) (k0_pay7 (F := Ideal) v) q s := by
  unfold Sel
  pointwise [k0_pay5, k0_pay6, k0_pay7, k0_pay3]
  rw [hs]
  clear hs
  revert s
  decide +kernel

end Cert.Block
-- ==== Proof.Radial.lean ====
/- The radial functions: the kernel's form of them, with the sign from the half of the nearest integer and the cosine's
   polynomial by nested multiplication, is the plain form, with the sign by parity and the polynomial by powers. -/
module
public import proofs.«01_k».proof.Proof.Block
public import Idealize.ShloMosaic.Lib.IdealHost
@[expose] public section
set_option maxRecDepth 16384
noncomputable section
open Idealize.ShloMosaic Idealize.ShloMosaic.TcCoe Idealize.SL.Sem
namespace Cert.Radial

/-! ## Over the reals -/

/-- The integer nearest to `x`. -/
def near (x : ℝ) : ℤ := ⌊x + 1 / 2⌋

/-- The cosine of pi times a distance, as a polynomial in the square `v` of the distance. -/
def poly (v : ℝ) : ℝ :=
  16777215 / 16777216 - 10349011 / 2097152 * v + 8511105 / 2097152 * (v * v) - 5586295 / 4194304 * (v * v * v)
    + 7371555 / 33554432 * (v * v * v * v)

/-- The radial function of frequency `k` at `r`. -/
def radial (k r : ℝ) : ℝ :=
  Real.exp (-r / 5) * (if Even (near (k * r / 5)) then poly ((k * r / 5 - near (k * r / 5)) * (k * r / 5 - near (k * r / 5)))
    else -poly ((k * r / 5 - near (k * r / 5)) * (k * r / 5 - near (k * r / 5))))

/-- One minus four times the fractional part of half an integer is its sign: one at even integers, minus one at odd. -/
theorem sign_half (n : ℤ) : 1 - 4 * ((n : ℝ) * (1 / 2) - (⌊(n : ℝ) * (1 / 2)⌋ : ℤ)) = if Even n then 1 else -1 := by
  rcases Int.even_or_odd n with h | h
  · obtain ⟨k, rfl⟩ := h
    have e : (((k + k : ℤ) : ℝ)) * (1 / 2) = (k : ℝ) := by push_cast; ring
    rw [e, Int.floor_intCast, if_pos ⟨k, rfl⟩]; ring
  · have ho := h
    obtain ⟨k, rfl⟩ := h
    have f : ⌊((2 * k + 1 : ℤ) : ℝ) * (1 / 2)⌋ = k := by
      rw [Int.floor_eq_iff]; push_cast; constructor <;> linarith
    rw [f, if_neg (Int.not_even_iff_odd.2 ho)]; push_cast; ring

/-- An integer is twice the floor of its half exactly when it is even. -/
theorem even_iff (n : ℤ) : ((n : ℝ) = 2 * ((⌊(n : ℝ) * (1 / 2)⌋ : ℤ) : ℝ)) ↔ Even n := by
  constructor
  · intro h
    have h' : n = 2 * ⌊(n : ℝ) * (1 / 2)⌋ := by exact_mod_cast h
    exact ⟨_, h'.trans (two_mul _)⟩
  · rintro ⟨k, rfl⟩
    have e : (((k + k : ℤ) : ℝ)) * (1 / 2) = (k : ℝ) := by push_cast; ring
    rw [e, Int.floor_intCast]; push_cast; ring

/-- The nested form with the sign as a factor. -/
theorem nested (k r : ℝ) (n : ℤ) (v : ℝ) :
    ((((7371555 / 33554432 * v + -(5586295 / 4194304)) * v + 8511105 / 2097152) * v + -(10349011 / 2097152)) * v + 16777215 / 16777216)
        * ((1 - 4 * ((n : ℝ) * (1 / 2) - (⌊(n : ℝ) * (1 / 2)⌋ : ℤ))) * Real.exp (r * (-1 / 5)))
      = Real.exp (-r / 5) * (if Even n then poly v else -poly v) := by
  rw [sign_half, show r * (-1 / 5) = -r / 5 by ring]
  unfold poly
  split <;> ring

/-! ## The literals -/

/-- The polynomial's fourth coefficient, as the literal's rational. -/
theorem lit_c4 : Ideal.ofBits .f32 0x3E60F646#32 = ((7371555 / 33554432 : ℝ) : EReal) := by
  simp [Ideal.ofBits, Ideal.ieee, -EReal.coe_mul]; norm_num
/-- The polynomial's third coefficient with its sign, as the literal's rational. -/
theorem lit_neg_c3 : Ideal.ofBits .f32 0xBFAA7AEE#32 = ((-(5586295 / 4194304) : ℝ) : EReal) := by
  simp [Ideal.ofBits, Ideal.ieee, -EReal.coe_mul, -EReal.coe_neg]; norm_num
/-- The third coefficient's magnitude, as the literal's rational. -/
theorem lit_c3 : Ideal.ofBits .f32 0x3FAA7AEE#32 = ((5586295 / 4194304 : ℝ) : EReal) := by
  simp [Ideal.ofBits, Ideal.ieee, -EReal.coe_mul]; norm_num
/-- The polynomial's second coefficient, as the literal's rational. -/
theorem lit_c2 : Ideal.ofBits .f32 0x4081DE81#32 = ((8511105 / 2097152 : ℝ) : EReal) := by
  simp [Ideal.ofBits, Ideal.ieee, -EReal.coe_mul]; norm_num
/-- The polynomial's first coefficient with its sign, as the literal's rational. -/
theorem lit_neg_c1 : Ideal.ofBits .f32 0xC09DE9D3#32 = ((-(10349011 / 2097152) : ℝ) : EReal) := by
  simp [Ideal.ofBits, Ideal.ieee, -EReal.coe_mul, -EReal.coe_neg]; norm_num
/-- The first coefficient's magnitude, as the literal's rational. -/
theorem lit_c1 : Ideal.ofBits .f32 0x409DE9D3#32 = ((10349011 / 2097152 : ℝ) : EReal) := by
  simp [Ideal.ofBits, Ideal.ieee, -EReal.coe_mul]; norm_num
/-- The polynomial's constant term, as the literal's rational. -/
theorem lit_c0 : Ideal.ofBits .f32 0x3F7FFFFF#32 = ((16777215 / 16777216 : ℝ) : EReal) := by
  simp [Ideal.ofBits, Ideal.ieee, -EReal.coe_mul]; norm_num
/-- The literal one half. -/
theorem lit_half : Ideal.ofBits .f32 0x3F000000#32 = ((1 / 2 : ℝ) : EReal) := by
  simp [Ideal.ofBits, Ideal.ieee, -EReal.coe_mul]; norm_num
/-- The literal two. -/
theorem lit_two : Ideal.ofBits .f32 0x40000000#32 = ((2 : ℝ) : EReal) := by
  simp [Ideal.ofBits, Ideal.ieee, -EReal.coe_mul]; norm_num
/-- The literal four. -/
theorem lit_four : Ideal.ofBits .f32 0x40800000#32 = ((4 : ℝ) : EReal) := by
  simp [Ideal.ofBits, Ideal.ieee, -EReal.coe_mul]; norm_num
/-- The literal five. -/
theorem lit_five : Ideal.ofBits .f32 0x40A00000#32 = ((5 : ℝ) : EReal) := by
  simp [Ideal.ofBits, Ideal.ieee, -EReal.coe_mul]; norm_num
/-- The named constant one fifth. -/
theorem lit_inv_cut : Named.named (F := Ideal) Cert.KernelIdeal.κ "inv_cut" (φ := .f32) 0x3E4CCCCD#32 = ((1 / 5 : ℝ) : EReal) :=
  IdealRules.named_const.ideal_named_scalar _ _ _ _ rfl
/-- The named constant minus one fifth. -/
theorem lit_neg_inv_cut :
    Named.named (F := Ideal) Cert.KernelIdeal.κ "neg_inv_cut" (φ := .f32) 0xBE4CCCCD#32 = ((-1 / 5 : ℝ) : EReal) :=
  IdealRules.named_const.ideal_named_scalar _ _ _ _ rfl

/-- The frequencies' words are their numbers. -/
theorem word (a : Fin 36) : FloatOps.sitofp (F := Ideal) .f32 (BitVec.ofNat 32 a.val) = ((a.val : ℝ) : EReal) := by
  show (((BitVec.ofNat 32 a.val).toInt : ℝ) : EReal) = _
  have : (BitVec.ofNat 32 a.val).toInt = (a.val : ℤ) := by revert a; decide
  rw [this]; push_cast; rfl

/-- One more than a frequency's word is the number that follows. -/
theorem word_succ (a : Fin 36) :
    FloatOps.sitofp (F := Ideal) .f32 (IntOp.addi (1#32) (BitVec.ofNat 32 a.val)) = ((a.val + 1 : ℝ) : EReal) := by
  show (((IntOp.addi (1#32) (BitVec.ofNat 32 a.val)).toInt : ℝ) : EReal) = _
  have : (IntOp.addi (1#32) (BitVec.ofNat 32 a.val)).toInt = (a.val : ℤ) + 1 := by revert a; decide
  rw [this]; push_cast; rfl

/-! ## The kernel's radial functions -/

section
open Cert.KernelIdeal Cert.KernelIdeal.Gen

/-- THE KERNEL'S RADIAL FUNCTIONS: at an edge of distance `r`, row `a` is the radial function of frequency `a + 1`. -/
theorem kernel_at (v : FVec Ideal S1x1x3200 .f32) (a : Fin 36) (q : Fin 3200) (r : ℝ) (h : v (ix3 0 0 q) = (r : EReal)) :
    k0_pay2 (F := Ideal) v (ix2 a q) = ((radial (a.val + 1) r : ℝ) : EReal) := by
  pointwise [k0_pay2]
  rw [h, lit_c4, lit_neg_c3, lit_c2, lit_neg_c1, lit_c0, lit_half, lit_four, lit_inv_cut, lit_neg_inv_cut, word]
  rw [show (1 : EReal) = ((1 : ℝ) : EReal) from rfl]
  simp only [← EReal.coe_mul, ← EReal.coe_add, ← EReal.coe_sub, Ideal.liftRound_coe, Ideal.exp_coe]
  refine congrArg _ ((nested (a.val + 1) r _ _).trans ?_)
  unfold radial near
  rw [show ((a.val : ℝ) + 1) * (1 / 5) * r = (a.val + 1) * r / 5 by ring]
end

end Cert.Radial
-- ==== Proof.Final.lean ====
/- The kernel's result arrays: at every edge and output, the perceptron of the edge's species over its radial functions. -/
module
public import proofs.«01_k».proof.Proof.Gen.KernelIdeal.Frame
public import proofs.«01_k».proof.Proof.Maths
public import proofs.«01_k».proof.Proof.Pack
public import proofs.«01_k».proof.Proof.Block
public import proofs.«01_k».proof.Proof.Radial
public import Idealize.ShloMosaic.Lib.Pointwise
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
open Cert.KernelIdeal Cert.KernelIdeal.Gen
namespace Cert.Final
open Cert.Maths Cert.Pack Cert.Block Cert.Radial

/-- The value of output `o` of angular momentum `l` at edge `e`: the perceptron of the edge's species `S e`, with the
    weights of `l`, over the `n` radial functions from `off` on at the edge's distance `ρ e`. -/
def target (w1 : FVec Ideal S4x4x12x32 .f32) (w2 w3 : FVec Ideal S4x4x32x32 .f32) (w4 : FVec Ideal S4x4x32x12 .f32)
    (ρ : Fin 160000 → ℝ) (S : Fin 160000 → Fin 4) (l : Fin 4) (n off : ℕ) (hn : n ≤ 12) (e : Fin 160000) (o : Fin n) : EReal :=
  mlp (fun a : Fin n => ((radial (((off + a.val : ℕ) : ℝ) + 1) (ρ e) : ℝ) : EReal))
    (fun a k => w1 (ix4 l (S e) ⟨a.val, lt_of_lt_of_le a.isLt hn⟩ k)) (fun i k => w2 (ix4 l (S e) i k))
    (fun i k => w3 (ix4 l (S e) i k)) (fun k (o : Fin n) => w4 (ix4 l (S e) k ⟨o.val, lt_of_lt_of_le o.isLt hn⟩)) o

variable (m : (ℓ : Loc nD τ sig) → Buf (Elt Ideal) ℓ)

/-- What the arguments of device `c` satisfy: real distances `ρ`, species `S`, and real weights of the first three layers. -/
structure Good (c : Dev nD) (ρ : Fin 160000 → ℝ) (S : Fin 160000 → Fin 4) : Prop where
  r : ∀ e, (m (c.tc.loc main_arg0) : FVec Ideal S160000 .f32) (ix1 e) = ((ρ e : ℝ) : EReal)
  s : ∀ e, (m (c.tc.loc main_arg1) : IVec S160000 32) (ix1 e) = BitVec.ofNat 32 (S e).val
  w1 : ∀ i, Fin' ((m (c.tc.loc main_arg4) : FVec Ideal S4x4x12x32 .f32) i)
  w2 : ∀ i, Fin' ((m (c.tc.loc main_arg5) : FVec Ideal S4x4x32x32 .f32) i)
  w3 : ∀ i, Fin' ((m (c.tc.loc main_arg6) : FVec Ideal S4x4x32x32 .f32) i)

/-- The target over device `c`'s argument arrays. -/
def goal (c : Dev nD) (ρ : Fin 160000 → ℝ) (S : Fin 160000 → Fin 4) (l : Fin 4) (n off : ℕ) (hn : n ≤ 12) :
    Fin 160000 → Fin n → EReal :=
  target (m (c.tc.loc main_arg4)) (m (c.tc.loc main_arg5)) (m (c.tc.loc main_arg6)) (m (c.tc.loc main_arg7)) ρ S l n off hn

variable {m} {c : Dev nD} {ρ : Fin 160000 → ℝ} {S : Fin 160000 → Fin 4}

/-- ONE BLOCK: over a block whose distances, species and weights are the arguments' at edge `e` and angular momentum
    `l`, the block's network at place `q` is the target. -/
theorem block_at (g : Good m c ρ S) {l : Fin 4} {n off : ℕ} (h : Shell l n off) (e : Fin 160000) (q : Fin 3200)
    (x0 : FVec Ideal S1x1x3200 .f32) (x1 : IVec S1x1x3200 32) (w1 : FVec Ideal S1x128x36 .f32)
    (w2 w3 : FVec Ideal S1x128x32 .f32) (w4 : FVec Ideal S1x12x128 .f32)
    (h0 : x0 (ix3 0 0 q) = (m (c.tc.loc main_arg0) : FVec Ideal S160000 .f32) (ix1 e))
    (h1 : x1 (ix3 0 0 q) = (m (c.tc.loc main_arg1) : IVec S160000 32) (ix1 e))
    (hw1 : ∀ p a, w1 (ix3 0 p a) = (V m c main_call0_v118 : FVec Ideal S4x128x36 .f32) (ix3 l p a))
    (hw2 : ∀ p a, w2 (ix3 0 p a) = (V m c main_call0_v123 : FVec Ideal S4x128x32 .f32) (ix3 l p a))
    (hw3 : ∀ p a, w3 (ix3 0 p a) = (V m c main_call0_v128 : FVec Ideal S4x128x32 .f32) (ix3 l p a))
    (hw4 : ∀ o p, w4 (ix3 0 o p) = (V m c main_call0_v133 : FVec Ideal S4x12x128 .f32) (ix3 l o p)) (o : Fin n) :
    net (k0_pay2 (F := Ideal) x0) (k0_pay4 (F := Ideal) x1) (k0_pay5 (F := Ideal) x1) (k0_pay6 (F := Ideal) x1)
        (k0_pay7 (F := Ideal) x1) w1 w2 w3 w4 (ix2 ⟨o.val, lt_of_lt_of_le o.isLt h.le⟩ q)
      = goal m c ρ S l n off h.le e o := by
  have hr := h0.trans (g.r e)
  have hs := h1.trans (g.s e)
  refine (net_at _ _ _ _ _ _ (sel_at x1 q (S e) hs) (mask_at x1 q (S e) hs) _).trans ?_
  have hb : ∀ a : Fin 36, k0_pay2 (F := Ideal) x0 (ix2 a q) = ((radial (a.val + 1) (ρ e) : ℝ) : EReal) :=
    fun a => kernel_at x0 a q (ρ e) hr
  refine (kmlp_eq off h.cover _ _ _ _ _ (S e) o
    (fun s (a : Fin n) k => (m (c.tc.loc main_arg4) : FVec Ideal S4x4x12x32 .f32) (ix4 l s ⟨a.val, lt_of_lt_of_le a.isLt h.le⟩ k))
    (fun s i k => (m (c.tc.loc main_arg5) : FVec Ideal S4x4x32x32 .f32) (ix4 l s i k))
    (fun s i k => (m (c.tc.loc main_arg6) : FVec Ideal S4x4x32x32 .f32) (ix4 l s i k))
    (fun s k (o : Fin n) => (m (c.tc.loc main_arg7) : FVec Ideal S4x4x32x12 .f32) (ix4 l s k ⟨o.val, lt_of_lt_of_le o.isLt h.le⟩))
    (fun a => (hb a).symm ▸ fin_coe _) (fun _ _ _ => g.w1 _) (fun _ _ _ => g.w2 _) (fun _ _ _ => g.w3 _)
    (fun p a => (hw1 p a).trans (w1_at m c h p a)) (fun p i => (hw2 p i).trans (w2_at m c l p i))
    (fun p i => (hw3 p i).trans (w3_at m c l p i)) (fun p => (hw4 _ p).trans (w4_at m c h p o))).trans ?_
  unfold goal target
  simp only [hb]

/-- The windows' block indices at every grid point. -/
theorem idx : ∀ t : Fin cfg0.N, win0_0.index t = ![t.val, 0, 0] ∧ win0_1.index t = ![t.val, 0, 0]
    ∧ win0_2.index t = ![0, 0, 0] ∧ win0_3.index t = ![0, 0, 0] ∧ win0_4.index t = ![0, 0, 0] ∧ win0_5.index t = ![0, 0, 0]
    ∧ win0_6.index t = ![0, t.val] ∧ win0_7.index t = ![0, t.val] ∧ win0_8.index t = ![0, t.val] ∧ win0_9.index t = ![0, t.val] :=
  (by decide +kernel : ∀ t : Fin grid0.N, _)

/-- The distances' block at point `t`. -/
theorem read0 (t : Fin cfg0.N) (ht : t.val < 50) (q : Fin 3200) :
    (iblk m c 0 t : FVec Ideal S1x1x3200 .f32) (ix3 0 0 q)
      = (V m c main_call0_v134 : FVec Ideal S50x1x3200 .f32) (ix3 ⟨t.val, ht⟩ 0 q) := by
  have hi := (idx t).1
  blk_simp [iblk]
  refine congrArg (V m c main_call0_v134) (funext fun a => Fin.ext ?_)
  fin_cases a <;> blk_simp [hi] <;> rfl

/-- The species' block at point `t`. -/
theorem read1 (t : Fin cfg0.N) (ht : t.val < 50) (q : Fin 3200) :
    (iblk m c 1 t : IVec S1x1x3200 32) (ix3 0 0 q)
      = (V m c main_call0_v135 : IVec S50x1x3200 32) (ix3 ⟨t.val, ht⟩ 0 q) := by
  have hi := (idx t).2.1
  blk_simp [iblk]
  refine congrArg (V m c main_call0_v135) (funext fun a => Fin.ext ?_)
  fin_cases a <;> blk_simp [hi] <;> rfl

/-! The weights' blocks are the whole stacked arrays at every point. -/

/-- The first layers' block is the stacked array of the first layers. -/
theorem read2 (t : Fin cfg0.N) (x : S4x128x36.Idx) :
    (iblk m c 2 t : FVec Ideal S4x128x36 .f32) x = (V m c main_call0_v118 : FVec Ideal S4x128x36 .f32) x := by
  have hi := (idx t).2.2.1
  blk_simp [iblk]
  refine congrArg (V m c main_call0_v118) (funext fun a => Fin.ext ?_)
  fin_cases a <;> blk_simp [hi] <;> rfl

/-- The second layers' block is the stacked array of the second layers. -/
theorem read3 (t : Fin cfg0.N) (x : S4x128x32.Idx) :
    (iblk m c 3 t : FVec Ideal S4x128x32 .f32) x = (V m c main_call0_v123 : FVec Ideal S4x128x32 .f32) x := by
  have hi := (idx t).2.2.2.1
  blk_simp [iblk]
  refine congrArg (V m c main_call0_v123) (funext fun a => Fin.ext ?_)
  fin_cases a <;> blk_simp [hi] <;> rfl

/-- The third layers' block is the stacked array of the third layers. -/
theorem read4 (t : Fin cfg0.N) (x : S4x128x32.Idx) :
    (iblk m c 4 t : FVec Ideal S4x128x32 .f32) x = (V m c main_call0_v128 : FVec Ideal S4x128x32 .f32) x := by
  have hi := (idx t).2.2.2.2.1
  blk_simp [iblk]
  refine congrArg (V m c main_call0_v128) (funext fun a => Fin.ext ?_)
  fin_cases a <;> blk_simp [hi] <;> rfl

/-- The last layers' block is the stacked array of the last layers. -/
theorem read5 (t : Fin cfg0.N) (x : S4x12x128.Idx) :
    (iblk m c 5 t : FVec Ideal S4x12x128 .f32) x = (V m c main_call0_v133 : FVec Ideal S4x12x128 .f32) x := by
  have hi := (idx t).2.2.2.2.2.1
  blk_simp [iblk]
  refine congrArg (V m c main_call0_v133) (funext fun a => Fin.ext ?_)
  fin_cases a <;> blk_simp [hi] <;> rfl

/-- The first `k` rows of a block of twelve. -/
theorem cut_at {k : ℕ} (x : FVec Ideal S12x3200 .f32) (h : S12x3200.Slices ![0, 0] ⟨2, ![k, 3200]⟩) (o : Fin k) (q : Fin 3200)
    (ho : o.val < 12) : extractStridedSlice ⟨2, ![k, 3200]⟩ ![0, 0] x h (ix2 o q) = x (ix2 ⟨o.val, ho⟩ q) := by
  refine congrArg x (funext fun a => Fin.ext ?_)
  fin_cases a <;> exact Nat.zero_add _

/-- ONE POINT, ONE ANGULAR MOMENTUM: over the input blocks of point `t`, with `w1` … `w4` the blocks' layers of angular
    momentum `l`, the network at place `q` is the target at edge `t · 3200 + q`. -/
theorem point (g : Good m c ρ S) {l : Fin 4} {n off : ℕ} (h : Shell l n off) (t : Fin cfg0.N) (ht : t.val < 50)
    (q : Fin 3200) {w1 : FVec Ideal S1x128x36 .f32} {w2 w3 : FVec Ideal S1x128x32 .f32} {w4 : FVec Ideal S1x12x128 .f32}
    (hw1 : ∀ p a, w1 (ix3 0 p a) = (iblk m c 2 t : FVec Ideal S4x128x36 .f32) (ix3 l p a))
    (hw2 : ∀ p a, w2 (ix3 0 p a) = (iblk m c 3 t : FVec Ideal S4x128x32 .f32) (ix3 l p a))
    (hw3 : ∀ p a, w3 (ix3 0 p a) = (iblk m c 4 t : FVec Ideal S4x128x32 .f32) (ix3 l p a))
    (hw4 : ∀ o p, w4 (ix3 0 o p) = (iblk m c 5 t : FVec Ideal S4x12x128 .f32) (ix3 l o p)) (o : Fin n) :
    net (k0_pay2 (F := Ideal) (iblk m c 0 t)) (k0_pay4 (F := Ideal) (iblk m c 1 t)) (k0_pay5 (F := Ideal) (iblk m c 1 t))
        (k0_pay6 (F := Ideal) (iblk m c 1 t)) (k0_pay7 (F := Ideal) (iblk m c 1 t)) w1 w2 w3 w4
        (ix2 ⟨o.val, lt_of_lt_of_le o.isLt h.le⟩ q)
      = goal m c ρ S l n off h.le ⟨t.val * 3200 + q.val, by omega⟩ o :=
  block_at g h ⟨t.val * 3200 + q.val, by omega⟩ q _ _ _ _ _ _ ((read0 t ht q).trans (r_at m c ⟨t.val, ht⟩ q))
    ((read1 t ht q).trans (sp_at m c ⟨t.val, ht⟩ q)) (fun p a => (hw1 p a).trans (read2 t _))
    (fun p a => (hw2 p a).trans (read3 t _)) (fun p a => (hw3 p a).trans (read4 t _))
    (fun o p => (hw4 o p).trans (read5 t _)) o

/-- THE KERNEL'S ARRAY OF ANGULAR MOMENTUM 0: output by edge, the target. -/
theorem final0 (g : Good m c ρ S) : (dats m 0 c).arrAt 6 (cfgs 0).N
    = (fun i => goal m c ρ S 0 12 0 (by decide) (i 1) (i 0) : FVec Ideal S12x160000 .f32) := by
  refine (dats m 0 c).arrAt_eq_of_covers 6 _ (by decide +kernel) fun t _ y => ?_
  blk_simp
  rw [after0_6]
  unfold_out out0_6
  frame_out
  obtain ⟨o, q, rfl⟩ : ∃ (o : Fin 12) (q : Fin 3200), y = ix2 o q := ⟨y 0, y 1, funext fun a => by fin_cases a <;> rfl⟩
  rw [net_0]
  refine (point g (.inl ⟨rfl, rfl, rfl⟩) t t.isLt q (fun p a => ?_) (fun p a => ?_) (fun p a => ?_) (fun o p => ?_) o).trans ?_
  · generalize (iblk m c 2 t : FVec Ideal S4x128x36 .f32) = X
    pointwise
  · generalize (iblk m c 3 t : FVec Ideal S4x128x32 .f32) = X
    pointwise
  · generalize (iblk m c 4 t : FVec Ideal S4x128x32 .f32) = X
    pointwise
  · generalize (iblk m c 5 t : FVec Ideal S4x12x128 .f32) = X
    pointwise
  · refine congr (congrArg _ (Fin.ext ?_)) (Fin.ext ?_) <;> blk_simp [idx t]

/-- THE KERNEL'S ARRAY OF ANGULAR MOMENTUM 1: output by edge, the target. -/
theorem final1 (g : Good m c ρ S) : (dats m 0 c).arrAt 7 (cfgs 0).N
    = (fun i => goal m c ρ S 1 10 12 (by decide) (i 1) (i 0) : FVec Ideal S10x160000 .f32) := by
  refine (dats m 0 c).arrAt_eq_of_covers 7 _ (by decide +kernel) fun t _ y => ?_
  blk_simp
  rw [after0_7]
  unfold_out out0_7
  frame_out
  obtain ⟨o, q, rfl⟩ : ∃ (o : Fin 10) (q : Fin 3200), y = ix2 o q := ⟨y 0, y 1, funext fun a => by fin_cases a <;> rfl⟩
  rw [net_1]
  refine (cut_at _ _ o q (by omega)).trans ?_
  refine (point g (.inr (.inl ⟨rfl, rfl, rfl⟩)) t t.isLt q (fun p a => ?_) (fun p a => ?_) (fun p a => ?_) (fun o p => ?_) o).trans ?_
  · generalize (iblk m c 2 t : FVec Ideal S4x128x36 .f32) = X
    pointwise
  · generalize (iblk m c 3 t : FVec Ideal S4x128x32 .f32) = X
    pointwise
  · generalize (iblk m c 4 t : FVec Ideal S4x128x32 .f32) = X
    pointwise
  · generalize (iblk m c 5 t : FVec Ideal S4x12x128 .f32) = X
    pointwise
  · refine congr (congrArg _ (Fin.ext ?_)) (Fin.ext ?_) <;> blk_simp [idx t]

/-- THE KERNEL'S ARRAY OF ANGULAR MOMENTUM 2: output by edge, the target. -/
theorem final2 (g : Good m c ρ S) : (dats m 0 c).arrAt 8 (cfgs 0).N
    = (fun i => goal m c ρ S 2 8 22 (by decide) (i 1) (i 0) : FVec Ideal S8x160000 .f32) := by
  refine (dats m 0 c).arrAt_eq_of_covers 8 _ (by decide +kernel) fun t _ y => ?_
  blk_simp
  rw [after0_8]
  unfold_out out0_8
  frame_out
  obtain ⟨o, q, rfl⟩ : ∃ (o : Fin 8) (q : Fin 3200), y = ix2 o q := ⟨y 0, y 1, funext fun a => by fin_cases a <;> rfl⟩
  rw [net_2]
  refine (cut_at _ _ o q (by omega)).trans ?_
  refine (point g (.inr (.inr (.inl ⟨rfl, rfl, rfl⟩))) t t.isLt q (fun p a => ?_) (fun p a => ?_) (fun p a => ?_) (fun o p => ?_) o).trans ?_
  · generalize (iblk m c 2 t : FVec Ideal S4x128x36 .f32) = X
    pointwise
  · generalize (iblk m c 3 t : FVec Ideal S4x128x32 .f32) = X
    pointwise
  · generalize (iblk m c 4 t : FVec Ideal S4x128x32 .f32) = X
    pointwise
  · generalize (iblk m c 5 t : FVec Ideal S4x12x128 .f32) = X
    pointwise
  · refine congr (congrArg _ (Fin.ext ?_)) (Fin.ext ?_) <;> blk_simp [idx t]

/-- THE KERNEL'S ARRAY OF ANGULAR MOMENTUM 3: output by edge, the target. -/
theorem final3 (g : Good m c ρ S) : (dats m 0 c).arrAt 9 (cfgs 0).N
    = (fun i => goal m c ρ S 3 6 30 (by decide) (i 1) (i 0) : FVec Ideal S6x160000 .f32) := by
  refine (dats m 0 c).arrAt_eq_of_covers 9 _ (by decide +kernel) fun t _ y => ?_
  blk_simp
  rw [after0_9]
  unfold_out out0_9
  frame_out
  obtain ⟨o, q, rfl⟩ : ∃ (o : Fin 6) (q : Fin 3200), y = ix2 o q := ⟨y 0, y 1, funext fun a => by fin_cases a <;> rfl⟩
  rw [net_3]
  refine (cut_at _ _ o q (by omega)).trans ?_
  refine (point g (.inr (.inr (.inr ⟨rfl, rfl, rfl⟩))) t t.isLt q (fun p a => ?_) (fun p a => ?_) (fun p a => ?_) (fun o p => ?_) o).trans ?_
  · generalize (iblk m c 2 t : FVec Ideal S4x128x36 .f32) = X
    pointwise
  · generalize (iblk m c 3 t : FVec Ideal S4x128x32 .f32) = X
    pointwise
  · generalize (iblk m c 4 t : FVec Ideal S4x128x32 .f32) = X
    pointwise
  · generalize (iblk m c 5 t : FVec Ideal S4x12x128 .f32) = X
    pointwise
  · refine congr (congrArg _ (Fin.ext ?_)) (Fin.ext ?_) <;> blk_simp [idx t]

end Cert.Final
-- ==== Proof.Tail.lean ====
/- The kernel's four results after the host's final transposes. -/
module
public import proofs.«01_k».proof.Proof.Final
public import Idealize.ShloMosaic.Lib.StableHlo.RunRead
public import Idealize.ShloMosaic.Lib.StableHlo.ReadAt
@[expose] public section
set_option maxRecDepth 16384
noncomputable section
open Idealize.ShloMosaic Idealize.ShloMosaic.TcCoe Idealize.SL.Sem
open Idealize.ShloMosaic.Pipeline (Dat)
open Cert.KernelIdeal Cert.KernelIdeal.Gen
namespace Cert.Final
variable {m : (ℓ : Loc nD τ sig) → Buf (Elt Ideal) ℓ} {c : Dev nD} {ρ : Fin 160000 → ℝ} {S : Fin 160000 → Fin 4}
/-- Result 0 after the launch: the transposed array of window 6, so the block MLP of edge `e`, channel `o`. -/
theorem result0 (g : Good m c ρ S) (e : Fin 160000) (o : Fin 12) :
    (Pipeline.afterTail₀ cfgs (dats m) 0 (V0 m) [hostOps1] c main_v0_0 : FVec Ideal S160000x12 .f32) (ix2 e o)
      = goal m c ρ S 0 12 0 (by decide) e o := by
  have hw := (Pipeline.withArrays_arr (cfgs 0).spec Gen.launch0.win.arr_inj c (V0 m c)
    (fun w => (dats m 0 c).arrAt w (cfgs 0).N) 6).trans (final0 g)
  unfold Pipeline.afterTail₀
  simp only [List.flatten_cons, List.flatten_nil, List.append_nil, hostOps1]
  after_results
  refine Eq.trans (congrFun (congrArg (fun x : FVec Ideal S12x160000 .f32 =>
    transpose S160000x12 [1, 0] x transposes_S12x160000_S160000x12_1_0) hw) (ix2 e o)) ?_
  rfl
/-- Result 1 after the launch: the transposed array of window 7, so the block MLP of edge `e`, channel `o`. -/
theorem result1 (g : Good m c ρ S) (e : Fin 160000) (o : Fin 10) :
    (Pipeline.afterTail₀ cfgs (dats m) 0 (V0 m) [hostOps1] c main_v0_1 : FVec Ideal S160000x10 .f32) (ix2 e o)
      = goal m c ρ S 1 10 12 (by decide) e o := by
  have hw := (Pipeline.withArrays_arr (cfgs 0).spec Gen.launch0.win.arr_inj c (V0 m c)
    (fun w => (dats m 0 c).arrAt w (cfgs 0).N) 7).trans (final1 g)
  unfold Pipeline.afterTail₀
  simp only [List.flatten_cons, List.flatten_nil, List.append_nil, hostOps1]
  after_results
  refine Eq.trans (congrFun (congrArg (fun x : FVec Ideal S10x160000 .f32 =>
    transpose S160000x10 [1, 0] x transposes_S10x160000_S160000x10_1_0) hw) (ix2 e o)) ?_
  rfl
/-- Result 2 after the launch: the transposed array of window 8, so the block MLP of edge `e`, channel `o`. -/
theorem result2 (g : Good m c ρ S) (e : Fin 160000) (o : Fin 8) :
    (Pipeline.afterTail₀ cfgs (dats m) 0 (V0 m) [hostOps1] c main_v0_2 : FVec Ideal S160000x8 .f32) (ix2 e o)
      = goal m c ρ S 2 8 22 (by decide) e o := by
  have hw := (Pipeline.withArrays_arr (cfgs 0).spec Gen.launch0.win.arr_inj c (V0 m c)
    (fun w => (dats m 0 c).arrAt w (cfgs 0).N) 8).trans (final2 g)
  unfold Pipeline.afterTail₀
  simp only [List.flatten_cons, List.flatten_nil, List.append_nil, hostOps1]
  after_results
  refine Eq.trans (congrFun (congrArg (fun x : FVec Ideal S8x160000 .f32 =>
    transpose S160000x8 [1, 0] x transposes_S8x160000_S160000x8_1_0) hw) (ix2 e o)) ?_
  rfl
/-- Result 3 after the launch: the transposed array of window 9, so the block MLP of edge `e`, channel `o`. -/
theorem result3 (g : Good m c ρ S) (e : Fin 160000) (o : Fin 6) :
    (Pipeline.afterTail₀ cfgs (dats m) 0 (V0 m) [hostOps1] c main_v0_3 : FVec Ideal S160000x6 .f32) (ix2 e o)
      = goal m c ρ S 3 6 30 (by decide) e o := by
  have hw := (Pipeline.withArrays_arr (cfgs 0).spec Gen.launch0.win.arr_inj c (V0 m c)
    (fun w => (dats m 0 c).arrAt w (cfgs 0).N) 9).trans (final3 g)
  unfold Pipeline.afterTail₀
  simp only [List.flatten_cons, List.flatten_nil, List.append_nil, hostOps1]
  after_results
  refine Eq.trans (congrFun (congrArg (fun x : FVec Ideal S6x160000 .f32 =>
    transpose S160000x6 [1, 0] x transposes_S6x160000_S160000x6_1_0) hw) (ix2 e o)) ?_
  rfl
end Cert.Final
-- ==== Proof.RefVal.lean ====
/- What the reference computes: at every edge and output, the perceptron of the edge's species over the spline's values. -/
module
public import proofs.«01_k».proof.Proof.Final
public import proofs.«01_k».proof.Proof.Gen.ReferenceIdeal.Run
public import Idealize.ShloMosaic.Lib.ReduceAll
public import Idealize.ShloMosaic.Lib.IdealHost
public import Idealize.ShloMosaic.Lib.MatmulPlain
@[expose] public section
set_option maxRecDepth 16384
noncomputable section
open Idealize.ShloMosaic Idealize.ShloMosaic.TcCoe Idealize.SL.Sem
open Cert.ReferenceIdeal Cert.ReferenceIdeal.Gen Cert.ReferenceIdeal.Value
namespace Cert.RefVal
open Cert.Maths

/-- The dimension numbers of `table[species]` over a table of four `A × B` matrices. -/
abbrev gat (A B : ℕ) (wf : GatherDims.WF ⟨3, ![4, A, B]⟩ S160000x1 ⟨3, ![160000, A, B]⟩ [1, 2] [0] [] [0] [] 1 ![1, A, B]) :
    GatherDims ⟨3, ![4, A, B]⟩ S160000x1 ⟨3, ![160000, A, B]⟩ :=
  ⟨[1, 2], [0], [], [], [0], 1, ![1, A, B], wf⟩

/-- Where the row word is the number `s` below four, the gather reads matrix `s`. -/
theorem gat_at {A B : ℕ} (wf) (x : FVec Ideal ⟨3, ![4, A, B]⟩ .f32) (idx : IVec S160000x1 32) (e : Fin 160000) (s : Fin 4)
    (h : idx (ix2 e 0) = BitVec.ofNat 32 s.val) (a : Fin A) (b : Fin B) :
    Host.gather (gat A B wf) x idx (ix3 e a b) = x (ix3 s a b) := by
  unfold Host.gather
  refine congrArg x (funext fun k => Fin.ext ?_)
  show (gat A B wf).start (ix3 e a b) idx k + (gat A B wf).batchCoord (ix3 e a b) k
    + (gat A B wf).offCoord (ix3 e a b) k = _
  rw [GatherDims.batchCoord_eq_zero _ _ _ (fun h => by simp at h)]
  have hs := s.isLt
  match k with
  | ⟨0, hk⟩ =>
    rw [GatherDims.offCoord_eq_zero _ _ _ (fun h => ((GatherDims.mem_sKept _ _).mp h).1 (List.mem_singleton.mpr rfl))]
    unfold GatherDims.start
    rw [dif_pos (show (⟨0, hk⟩ : Fin 3) ∈ (gat A B wf).startIndexMap from List.mem_singleton.mpr rfl)]
    have hsi : (gat A B wf).siIdx (ix3 e a b) ⟨List.idxOf (0 : Fin 3) (gat A B wf).startIndexMap,
        List.idxOf_lt_length_iff.2 (List.mem_singleton.mpr rfl)⟩ = ix2 e 0 := by
      funext b'; refine Fin.ext ?_
      match b' with
      | ⟨0, _⟩ => rfl
      | ⟨1, _⟩ => rfl
    have h2 : idx ((gat A B wf).siIdx (ix3 e a b) ⟨List.idxOf (0 : Fin 3) (gat A B wf).startIndexMap,
        List.idxOf_lt_length_iff.2 (List.mem_singleton.mpr rfl)⟩) = BitVec.ofNat 32 s.val := by rw [hsi, h]
    have h3 : (BitVec.ofNat 32 s.val).toInt = s.val := StableHlo.Predicate.toInt_ofNat_small _ (by omega)
    show min (idx ((gat A B wf).siIdx (ix3 e a b) ⟨List.idxOf (0 : Fin 3) (gat A B wf).startIndexMap,
        List.idxOf_lt_length_iff.2 (List.mem_singleton.mpr rfl)⟩)).toInt.toNat (4 - 1) + 0 + 0 = s.val
    rw [h2, h3]
    omega
  | ⟨1, hk⟩ =>
    unfold GatherDims.start
    rw [dif_neg (fun h => absurd (congrArg Fin.val (List.mem_singleton.1 h)) (by show (1 : ℕ) ≠ 0; decide))]
    simp only [Nat.zero_add]
    rfl
  | ⟨2, hk⟩ =>
    unfold GatherDims.start
    rw [dif_neg (fun h => absurd (congrArg Fin.val (List.mem_singleton.1 h)) (by show (2 : ℕ) ≠ 0; decide))]
    simp only [Nat.zero_add]
    rfl

/-- The dimension numbers of one vector times its own matrix, for every edge. -/
abbrev dt (A B : ℕ) (wf : DotDims.WF ⟨2, ![160000, A]⟩ ⟨3, ![160000, A, B]⟩ ⟨2, ![160000, B]⟩ [1] [1] [] [2] [0] [0]) :
    DotDims ⟨2, ![160000, A]⟩ ⟨3, ![160000, A, B]⟩ ⟨2, ![160000, B]⟩ :=
  ⟨[1], [1], [], [2], [0], [0], wf⟩

/-- Its value at an edge is the edge's vector times the edge's matrix. -/
theorem dt_at {A B : ℕ} (wf) (x : FVec Ideal ⟨2, ![160000, A]⟩ .f32) (w : FVec Ideal ⟨3, ![160000, A, B]⟩ .f32)
    (e : Fin 160000) (o : Fin B) :
    Host.dotGeneral (dt A B wf) none x w (ix2 e o) = ∑ i, x (ix2 e i) * w (ix3 e i o) := by
  have hr : (dt A B wf).contr.rank = 1 := rfl
  have c0 : (dt A B wf).contr.size ⟨0, by rw [hr]; omega⟩ = A := rfl
  refine (Ideal.dotGeneral_apply _ _ _ _ _ _).trans ?_
  rw [← Equiv.sum_comp (ValueIdx.contrEquiv1 (dt A B wf) A hr c0).symm]
  refine Finset.sum_congr rfl fun i _ => ?_
  have hk := ValueIdx.contrEquiv1_symm_val (dt A B wf) A hr c0 i
  have el : (dt A B wf).lhsIdx (ix2 e o) ((ValueIdx.contrEquiv1 (dt A B wf) A hr c0).symm i) = ix2 e i := by
    funext a; apply Fin.ext
    match a with
    | ⟨0, _⟩ => rfl
    | ⟨1, _⟩ => exact hk
  have er : (dt A B wf).rhsIdx (ix2 e o) ((ValueIdx.contrEquiv1 (dt A B wf) A hr c0).symm i) = ix3 e i o := by
    funext a; apply Fin.ext
    match a with
    | ⟨0, _⟩ => rfl
    | ⟨1, _⟩ => exact hk
    | ⟨2, _⟩ => rfl
  rw [el, er]

/-- The species column as row words: a negative word has four added. -/
abbrev words (s : IVec S160000 32) : IVec S160000x1 32 :=
  broadcastInDim S160000x1 ![0] bcast_S160000_S160000x1_0 (select (cmpi .slt s (broadcastInDim S160000 ![] bcast_S_S160000 (constantI S_ 32 0#32))) (addi s (broadcastInDim S160000 ![] bcast_S_S160000 (constantI S_ 32 4#32))) s)

/-- A species below four is its own row word. -/
theorem words_at (s : IVec S160000 32) (e : Fin 160000) (k : Fin 4) (h : s (ix1 e) = BitVec.ofNat 32 k.val) :
    words s (ix2 e 0) = BitVec.ofNat 32 k.val := by
  unfold words
  pointwise
  rw [h]
  clear h
  revert k
  decide

/-- `table[species]`, with the fill value where the row word is out of range. -/
abbrev take {A B : ℕ} (hb : S160000.BroadcastsInDim ⟨3, ![160000, A, B]⟩ ![0]) (hn : S_.BroadcastsInDim ⟨3, ![160000, A, B]⟩ ![])
    (wf : GatherDims.WF ⟨3, ![4, A, B]⟩ S160000x1 ⟨3, ![160000, A, B]⟩ [1, 2] [0] [] [0] [] 1 ![1, A, B])
    (tab : FVec Ideal ⟨3, ![4, A, B]⟩ .f32) (idx : IVec S160000x1 32) : FVec Ideal ⟨3, ![160000, A, B]⟩ .f32 :=
  select (broadcastInDim _ ![0] hb (Host.reduce IntOp.andi (andi (cmpi .sge idx (broadcastInDim S160000x1 ![] bcast_S_S160000x1 (constantI S_ 32 0#32))) (cmpi .sle idx (broadcastInDim S160000x1 ![0, 1] bcast_S1x1_S160000x1_0_1 (broadcastInDim S1x1 ![1] bcast_S1_S1x1_1 (constantI S1 32 3#32))))) (constantI S_ 1 1#1) reducesTo_S160000x1_S160000_d1 h_S_))
    (Host.gather (gat A B wf) tab idx) (broadcastInDim _ ![] hn (constant S_ .f32 0x7FC00000#32))

/-- A choice whose mask is one everywhere is its first branch. -/
theorem chosen {A B : ℕ} (hb : S160000.BroadcastsInDim ⟨3, ![160000, A, B]⟩ ![0]) (M : IVec S160000 1) (hM : ∀ j, M j = 1#1)
    (X Y : FVec Ideal ⟨3, ![160000, A, B]⟩ .f32) (i) : select (broadcastInDim _ ![0] hb M) X Y i = X i := by
  show Scalar.select (M _) (X i) (Y i) = X i
  rw [hM]; rfl

/-- With every row word a species, the fill value is never taken. -/
theorem take_at {A B : ℕ} (hb hn wf) (tab : FVec Ideal ⟨3, ![4, A, B]⟩ .f32) (idx : IVec S160000x1 32) (S : Fin 160000 → Fin 4)
    (h : ∀ e, idx (ix2 e 0) = BitVec.ofNat 32 (S e).val) (e : Fin 160000) (a : Fin A) (b : Fin B) :
    take hb hn wf tab idx (ix3 e a b) = tab (ix3 (S e) a b) := by
  have hm : ∀ j, Host.reduce IntOp.andi (andi (cmpi .sge idx (broadcastInDim S160000x1 ![] bcast_S_S160000x1 (constantI S_ 32 0#32))) (cmpi .sle idx (broadcastInDim S160000x1 ![0, 1] bcast_S1x1_S160000x1_0_1 (broadcastInDim S1x1 ![1] bcast_S1_S1x1_1 (constantI S1 32 3#32))))) (constantI S_ 1 1#1) reducesTo_S160000x1_S160000_d1 h_S_ j = 1#1 := by
    intro j
    refine Host.reduce_andi_one _ _ _ _ _ rfl fun i => ?_
    obtain ⟨e', z, rfl⟩ : ∃ (e' : Fin 160000) (z : Fin 1), i = ix2 e' z :=
      ⟨i 0, i 1, funext fun a => by fin_cases a <;> rfl⟩
    obtain rfl : z = 0 := Subsingleton.elim _ _
    show IntOp.andi (IntOp.cmpi .sge (idx (ix2 e' 0)) 0#32) (IntOp.cmpi .sle (idx (ix2 e' 0)) 3#32) = 1#1
    rw [h e']
    generalize S e' = k
    revert k
    decide
  exact (chosen hb _ hm _ _ _).trans (gat_at wf tab idx e (S e) (h e) a b)

/-- The activation as the reference computes it. -/
abbrev siluT (z : FVec Ideal S160000x32 .f32) : FVec Ideal S160000x32 .f32 :=
  mulf z (Host.divf (broadcastInDim S160000x32 ![] bcast_S_S160000x32 (constant S_ .f32 0x3F800000#32)) (addf (broadcastInDim S160000x32 ![] bcast_S_S160000x32 (constant S_ .f32 0x3F800000#32)) (Host.exp (Host.negf z))))

/-- The reference's activation, entry by entry, is `silu`. -/
theorem siluT_at (z : FVec Ideal S160000x32 .f32) (e : Fin 160000) (o : Fin 32) : siluT z (ix2 e o) = silu (z (ix2 e o)) := by
  unfold siluT silu Ideal.logistic
  pointwise

/-- The shape facts the chain below uses, at `n` channels. -/
structure Dims (n : ℕ) : Prop where
  d1 : DotDims.WF ⟨2, ![160000, n]⟩ ⟨3, ![160000, n, 32]⟩ S160000x32 [1] [1] [] [2] [0] [0]
  d2 : DotDims.WF S160000x32 S160000x32x32 S160000x32 [1] [1] [] [2] [0] [0]
  d4 : DotDims.WF S160000x32 ⟨3, ![160000, 32, n]⟩ ⟨2, ![160000, n]⟩ [1] [1] [] [2] [0] [0]
  h1 : S160000.BroadcastsInDim ⟨3, ![160000, n, 32]⟩ ![0]
  h2 : S160000.BroadcastsInDim S160000x32x32 ![0]
  h4 : S160000.BroadcastsInDim ⟨3, ![160000, 32, n]⟩ ![0]
  k1 : S_.BroadcastsInDim ⟨3, ![160000, n, 32]⟩ ![]
  k2 : S_.BroadcastsInDim S160000x32x32 ![]
  k4 : S_.BroadcastsInDim ⟨3, ![160000, 32, n]⟩ ![]
  g1 : GatherDims.WF ⟨3, ![4, n, 32]⟩ S160000x1 ⟨3, ![160000, n, 32]⟩ [1, 2] [0] [] [0] [] 1 ![1, n, 32]
  g2 : GatherDims.WF S4x32x32 S160000x1 S160000x32x32 [1, 2] [0] [] [0] [] 1 ![1, 32, 32]
  g4 : GatherDims.WF ⟨3, ![4, 32, n]⟩ S160000x1 ⟨3, ![160000, 32, n]⟩ [1, 2] [0] [] [0] [] 1 ![1, 32, n]

/-- The reference's perceptron over all edges: four layers of taken matrices, the first three activated. -/
abbrev chain {n : ℕ} (d : Dims n)
    (x : FVec Ideal ⟨2, ![160000, n]⟩ .f32) (t1 : FVec Ideal ⟨3, ![4, n, 32]⟩ .f32)
    (t2 t3 : FVec Ideal S4x32x32 .f32) (t4 : FVec Ideal ⟨3, ![4, 32, n]⟩ .f32) (idx : IVec S160000x1 32) : FVec Ideal ⟨2, ![160000, n]⟩ .f32 :=
  Host.dotGeneral (dt 32 n d.d4) none (siluT (Host.dotGeneral (dt 32 32 d.d2) none (siluT (Host.dotGeneral (dt 32 32 d.d2) none
    (siluT (Host.dotGeneral (dt n 32 d.d1) none x (take d.h1 d.k1 d.g1 t1 idx))) (take d.h2 d.k2 d.g2 t2 idx))) (take d.h2 d.k2 d.g2 t3 idx))) (take d.h4 d.k4 d.g4 t4 idx)

/-- At an edge it is the perceptron of the edge's species. -/
theorem chain_at {n : ℕ} (d : Dims n) (x : FVec Ideal ⟨2, ![160000, n]⟩ .f32) (t1 : FVec Ideal ⟨3, ![4, n, 32]⟩ .f32)
    (t2 t3 : FVec Ideal S4x32x32 .f32) (t4 : FVec Ideal ⟨3, ![4, 32, n]⟩ .f32) (idx : IVec S160000x1 32) (S : Fin 160000 → Fin 4)
    (h : ∀ e, idx (ix2 e 0) = BitVec.ofNat 32 (S e).val) (e : Fin 160000) (o : Fin n) :
    chain d x t1 t2 t3 t4 idx (ix2 e o)
      = mlp (fun a => x (ix2 e a)) (fun a k => t1 (ix3 (S e) a k)) (fun a k => t2 (ix3 (S e) a k)) (fun a k => t3 (ix3 (S e) a k))
          (fun a k => t4 (ix3 (S e) a k)) o := by
  unfold chain mlp dense
  rw [dt_at]
  refine Finset.sum_congr rfl fun i _ => ?_
  rw [take_at _ _ _ _ _ S h, siluT_at, dt_at]
  refine congrArg (fun z => silu z * _) (Finset.sum_congr rfl fun i _ => ?_)
  rw [take_at _ _ _ _ _ S h, siluT_at, dt_at]
  refine congrArg (fun z => silu z * _) (Finset.sum_congr rfl fun i _ => ?_)
  rw [take_at _ _ _ _ _ S h, siluT_at, dt_at]
  refine congrArg (fun z => silu z * _) (Finset.sum_congr rfl fun i _ => ?_)
  rw [take_at _ _ _ _ _ S h]

/-- The shapes of the first shell, of 12 radial functions. -/
theorem d12 : Dims 12 :=
  ⟨dot_S160000x12_S160000x12x32_S160000x32_1_1_n_2_0_0_wf, dot_S160000x32_S160000x32x32_S160000x32_1_1_n_2_0_0_wf, dot_S160000x32_S160000x32x12_S160000x12_1_1_n_2_0_0_wf, bcast_S160000_S160000x12x32_0, bcast_S160000_S160000x32x32_0, bcast_S160000_S160000x32x12_0, bcast_S_S160000x12x32, bcast_S_S160000x32x32, bcast_S_S160000x32x12, gather_S4x12x32_S160000x1_S160000x12x32_12_0_n_n_0_1_11232_wf, gather_S4x32x32_S160000x1_S160000x32x32_12_0_n_n_0_1_13232_wf, gather_S4x32x12_S160000x1_S160000x32x12_12_0_n_n_0_1_13212_wf⟩
/-- The shapes of the second shell, of 10 radial functions. -/
theorem d10 : Dims 10 :=
  ⟨dot_S160000x10_S160000x10x32_S160000x32_1_1_n_2_0_0_wf, dot_S160000x32_S160000x32x32_S160000x32_1_1_n_2_0_0_wf, dot_S160000x32_S160000x32x10_S160000x10_1_1_n_2_0_0_wf, bcast_S160000_S160000x10x32_0, bcast_S160000_S160000x32x32_0, bcast_S160000_S160000x32x10_0, bcast_S_S160000x10x32, bcast_S_S160000x32x32, bcast_S_S160000x32x10, gather_S4x10x32_S160000x1_S160000x10x32_12_0_n_n_0_1_11032_wf, gather_S4x32x32_S160000x1_S160000x32x32_12_0_n_n_0_1_13232_wf, gather_S4x32x10_S160000x1_S160000x32x10_12_0_n_n_0_1_13210_wf⟩
/-- The shapes of the third shell, of 8 radial functions. -/
theorem d8 : Dims 8 :=
  ⟨dot_S160000x8_S160000x8x32_S160000x32_1_1_n_2_0_0_wf, dot_S160000x32_S160000x32x32_S160000x32_1_1_n_2_0_0_wf, dot_S160000x32_S160000x32x8_S160000x8_1_1_n_2_0_0_wf, bcast_S160000_S160000x8x32_0, bcast_S160000_S160000x32x32_0, bcast_S160000_S160000x32x8_0, bcast_S_S160000x8x32, bcast_S_S160000x32x32, bcast_S_S160000x32x8, gather_S4x8x32_S160000x1_S160000x8x32_12_0_n_n_0_1_1832_wf, gather_S4x32x32_S160000x1_S160000x32x32_12_0_n_n_0_1_13232_wf, gather_S4x32x8_S160000x1_S160000x32x8_12_0_n_n_0_1_1328_wf⟩
/-- The shapes of the fourth shell, of 6 radial functions. -/
theorem d6 : Dims 6 :=
  ⟨dot_S160000x6_S160000x6x32_S160000x32_1_1_n_2_0_0_wf, dot_S160000x32_S160000x32x32_S160000x32_1_1_n_2_0_0_wf, dot_S160000x32_S160000x32x6_S160000x6_1_1_n_2_0_0_wf, bcast_S160000_S160000x6x32_0, bcast_S160000_S160000x32x32_0, bcast_S160000_S160000x32x6_0, bcast_S_S160000x6x32, bcast_S_S160000x32x32, bcast_S_S160000x32x6, gather_S4x6x32_S160000x1_S160000x6x32_12_0_n_n_0_1_1632_wf, gather_S4x32x32_S160000x1_S160000x32x32_12_0_n_n_0_1_13232_wf, gather_S4x32x6_S160000x1_S160000x32x6_12_0_n_n_0_1_1326_wf⟩
/-- A cut of one member of a stacked table, read at a species, a row and a column. -/
theorem member_at {A B A' B' : ℕ} (w : FVec Ideal ⟨4, ![4, 4, A', B']⟩ .f32) (l : Fin 4) (hA : A ≤ A') (hB : B ≤ B')
    (h : Shape.Slices ⟨4, ![4, 4, A', B']⟩ ![l.val, 0, 0, 0] ⟨4, ![1, 4, A, B]⟩)
    (h' : Shape.ShapeCasts ⟨4, ![1, 4, A, B]⟩ ⟨3, ![4, A, B]⟩) (s : Fin 4) (a : Fin A) (b : Fin B) :
    shapeCast ⟨3, ![4, A, B]⟩ (extractStridedSlice ⟨4, ![1, 4, A, B]⟩ ![l.val, 0, 0, 0] w h) h' (ix3 s a b)
      = w (ix4 l s ⟨a.val, by omega⟩ ⟨b.val, by omega⟩) := by
  refine (shapeCast_dropUnit_apply ![4, A, B] _ h' _).trans (congrArg w (funext fun k => Fin.ext ?_))
  match k with
  | ⟨0, _⟩ => rfl
  | ⟨1, _⟩ => exact Nat.zero_add _
  | ⟨2, _⟩ => exact Nat.zero_add _
  | ⟨3, _⟩ => exact Nat.zero_add _

/-- A block of the reference: at edge `e`, channel `o`, the perceptron of the edge's species over the block's radial
    values. -/
theorem ref_at (v : FVec Ideal S160000x36 .f32) (s : IVec S160000 32) (w1 : FVec Ideal S4x4x12x32 .f32) (w2 w3 : FVec Ideal S4x4x32x32 .f32)
    (w4 : FVec Ideal S4x4x32x12 .f32) (ρ : Fin 160000 → ℝ) (S : Fin 160000 → Fin 4) (hs : ∀ e, s (ix1 e) = BitVec.ofNat 32 (S e).val)
    (hv : ∀ e a, v (ix2 e a) = ((Radial.radial ((a.val : ℝ) + 1) (ρ e) : ℝ) : EReal)) (l : Fin 4) (n off : ℕ) (hn : n ≤ 12)
    (ho : off + n ≤ 36) (d : Dims n) (x1 x2 x3 x4 x5 x6 x7) (e : Fin 160000) (o : Fin n) :
    chain d (extractStridedSlice ⟨2, ![160000, n]⟩ ![0, off] v x1)
      (shapeCast ⟨3, ![4, n, 32]⟩ (extractStridedSlice ⟨4, ![1, 4, n, 32]⟩ ![l.val, 0, 0, 0] w1 x2) x3)
      (shapeCast S4x32x32 (extractStridedSlice S1x4x32x32 ![l.val, 0, 0, 0] w2 x4) x5)
      (shapeCast S4x32x32 (extractStridedSlice S1x4x32x32 ![l.val, 0, 0, 0] w3 x4) x5)
      (shapeCast ⟨3, ![4, 32, n]⟩ (extractStridedSlice ⟨4, ![1, 4, 32, n]⟩ ![l.val, 0, 0, 0] w4 x6) x7) (words s) (ix2 e o)
      = Final.target w1 w2 w3 w4 ρ S l n off hn e o := by
  rw [chain_at d _ _ _ _ _ _ S (fun e => words_at s e (S e) (hs e))]
  unfold Final.target
  congr 1
  · funext a
    have ha := a.isLt
    have hx : extractStridedSlice ⟨2, ![160000, n]⟩ ![0, off] v x1 (ix2 e a) = v (ix2 e ⟨off + a.val, by omega⟩) :=
      congrArg v (funext fun k => Fin.ext (match k with
        | ⟨0, _⟩ => Nat.zero_add _
        | ⟨1, _⟩ => rfl))
    rw [hx, hv]
  · funext a k; exact member_at w1 l hn le_rfl _ _ _ _ _
  · funext a k; exact member_at w2 l le_rfl le_rfl _ _ _ _ _
  · funext a k; exact member_at w3 l le_rfl le_rfl _ _ _ _ _
  · funext a k; exact member_at w4 l le_rfl hn _ _ _ _ _

end Cert.RefVal
-- ==== Proof.PreVal.lean ====
/- What the precondition says of the arguments. -/
module
public import proofs.«01_k».proof.Proof.RefVal
public import proofs.«01_k».proof.Proof.Gen.Pre_tables_agree
@[expose] public section
set_option maxRecDepth 16384
noncomputable section
open Idealize.ShloMosaic Idealize.ShloMosaic.TcCoe Idealize.SL.Sem
open Cert.ReferenceIdeal Cert.ReferenceIdeal.Gen
open Cert.ReferenceIdeal.Value (res_main_v56)
namespace Cert.PreVal
open Cert.Maths

/-- Every entry of a mask is one. -/
abbrev every {S : Shape} {ax : List (Fin S.rank)} (x : IVec S 1) (h : S.ReducesTo ax S_) (h' : 0 < S_.numel) : IVec S_ 1 :=
  Host.reduce IntOp.andi x (constantI S_ 1 1#1) h h'

/-- The mask of the entries below infinity in absolute value. -/
abbrev below {S : Shape} (x : FVec Ideal S .f32) : IVec S 1 := cmpf .olt (Host.absf x) (constant S .f32 0x7F800000#32)

open Cert.Pre_tables_agree.Facts in
/-- The precondition's result is the conjunction of its parts: the spline equals some array `v`, the species lie in
range, and four arguments are finite; and `v` is the radial function's value wherever the distance is a real number. -/
theorem pre_eq (V : Valuation τ sig (Elt Ideal)) : ∃ v : FVec Ideal S160000x36 .f32,
    (∀ e a r, (V (Proc.devRef .tc main_arg0) : FVec Ideal S160000 .f32) (ix1 e) = ((r : ℝ) : EReal) →
      v (ix2 e a) = ((Radial.radial ((a.val : ℝ) + 1) r : ℝ) : EReal)) ∧
    Cert.Pre_tables_agree.fn (F := Ideal) (V (Proc.devRef .tc main_arg0)) (V (Proc.devRef .tc main_arg1)) (V (Proc.devRef .tc main_arg2))
      (V (Proc.devRef .tc main_arg3)) (V (Proc.devRef .tc main_arg4)) (V (Proc.devRef .tc main_arg5)) (V (Proc.devRef .tc main_arg6)) (V (Proc.devRef .tc main_arg7))
    = andi (andi (andi (andi (andi (every (cmpf .oeq (res_main_v56 V) v) reducesTo_S160000x36_S_d0_1 Cert.ReferenceIdeal.Gen.h_S_)
       (every (andi (cmpi .sge (V (Proc.devRef .tc main_arg1) : IVec S160000 32) (fun _ => 0#32)) (cmpi .slt (V (Proc.devRef .tc main_arg1)) (fun _ => 4#32))) reducesTo_S160000_S_d0 Cert.ReferenceIdeal.Gen.h_S_))
         (every (below (V (Proc.devRef .tc main_arg0) : FVec Ideal S160000 .f32)) reducesTo_S160000_S_d0 Cert.ReferenceIdeal.Gen.h_S_))
         (every (below (V (Proc.devRef .tc main_arg4) : FVec Ideal S4x4x12x32 .f32)) reducesTo_S4x4x12x32_S_d0_1_2_3 Cert.ReferenceIdeal.Gen.h_S_))
         (every (below (V (Proc.devRef .tc main_arg5) : FVec Ideal S4x4x32x32 .f32)) reducesTo_S4x4x32x32_S_d0_1_2_3 Cert.ReferenceIdeal.Gen.h_S_))
         (every (below (V (Proc.devRef .tc main_arg6) : FVec Ideal S4x4x32x32 .f32)) reducesTo_S4x4x32x32_S_d0_1_2_3 Cert.ReferenceIdeal.Gen.h_S_) := by
  refine ⟨_, ?_, rfl⟩
  intro e a r h
  pointwise [Cert.Pre_tables_agree.fn_where]
  rw [h]
  simp only [Radial.word_succ, Radial.lit_c4, Radial.lit_c3, Radial.lit_c2, Radial.lit_c1, Radial.lit_c0, Radial.lit_half,
    Radial.lit_two, Radial.lit_five, Ideal.div_coe (show (5 : ℝ) ≠ 0 by norm_num), Ideal.div_coe (show (2 : ℝ) ≠ 0 by norm_num),
    ← EReal.coe_mul, ← EReal.coe_add, ← EReal.coe_sub, ← EReal.coe_neg, Ideal.liftRound_coe, Ideal.exp_coe]
  rw [show ((a.val : ℝ) + 1) * r * (1 / 5) = (a.val + 1) * r / 5 by ring, show -r * (1 / 5) = -r / 5 by ring]
  simp only [EReal.coe_eq_coe_iff, Radial.even_iff]
  unfold Radial.radial Radial.near Radial.poly
  split <;> rw [← EReal.coe_mul] <;> refine congrArg _ ?_ <;> ring

/-- A true bit is the bit of a true condition. -/
theorem bit_one {b : Bool} (h : BitVec.ofBool b = 1#1) : b = true := by
  revert h; cases b <;> decide

/-- An entry below infinity in absolute value is a real number. -/
theorem fin_of_below {S : Shape} (x : FVec Ideal S .f32) (i : S.Idx) (h : below x i = 1#1) : Fin' (x i) := by
  revert h
  pointwise
  generalize x i = y
  intro h
  have hi : Ideal.ofBits .f32 0x7F800000#32 = ⊤ := by simp [Ideal.ofBits, Ideal.ieee]
  have h1 : max (y : EReal) (-y) < ⊤ := by
    rw [hi] at h
    exact of_decide_eq_true (bit_one h)
  obtain ⟨h2, h3⟩ := max_lt_iff.1 h1
  refine ⟨(y : EReal).toReal, (EReal.coe_toReal h2.ne ?_).symm⟩
  rintro hb
  rw [hb] at h3
  exact absurd h3 (by simp)

/-- If the conjunction of an array of bits is one, every bit is one. -/
theorem all_of_every {S : Shape} {ax : List (Fin S.rank)} (x : IVec S 1) (h : S.ReducesTo ax S_) (h') (j : S_.Idx)
    (e : every x h h' j = 1#1) (i : S.Idx) : x i = 1#1 :=
  haveI : Subsingleton S_.Idx := ⟨fun a b => funext fun k => k.elim0⟩
  Host.reduce_andi_all x _ h h' j e i

/-- A word at least zero and below four is a species. -/
theorem species_of (w : BitVec 32) (h : IntOp.andi (IntOp.cmpi .sge w 0#32) (IntOp.cmpi .slt w 4#32) = 1#1) :
    ∃ k : Fin 4, w = BitVec.ofNat 32 k.val := by
  obtain ⟨h1, h2⟩ := IntOp.andi_eq_one.1 h
  rw [IntOp.cmpi_sge] at h1
  rw [IntOp.cmpi_slt] at h2
  have e0 : (0#32 : BitVec 32).toInt = 0 := by decide
  have e4 : (4#32 : BitVec 32).toInt = 4 := by decide
  rw [e0] at h1
  rw [e4] at h2
  refine ⟨⟨w.toInt.toNat, by omega⟩, BitVec.eq_of_toInt_eq ?_⟩
  show w.toInt = (BitVec.ofNat 32 w.toInt.toNat).toInt
  rw [StableHlo.Predicate.toInt_ofNat_small _ (by omega)]
  omega

/-- WHAT THE PRECONDITION GIVES: the distances are reals, the species are below four, the first three layers' weights are
    reals, and the interpolated radial values are the radial functions of the distances. -/
theorem facts_of (V : Valuation τ sig (Elt Ideal))
    (h : Cert.Pre_tables_agree.fn (F := Ideal) (V (Proc.devRef .tc main_arg0)) (V (Proc.devRef .tc main_arg1)) (V (Proc.devRef .tc main_arg2))
      (V (Proc.devRef .tc main_arg3)) (V (Proc.devRef .tc main_arg4)) (V (Proc.devRef .tc main_arg5)) (V (Proc.devRef .tc main_arg6)) (V (Proc.devRef .tc main_arg7))
      = fun _ => 1#1) :
    ∃ (ρ : Fin 160000 → ℝ) (S : Fin 160000 → Fin 4),
      (∀ e, (V (Proc.devRef .tc main_arg0) : FVec Ideal S160000 .f32) (ix1 e) = ((ρ e : ℝ) : EReal))
      ∧ (∀ e, (V (Proc.devRef .tc main_arg1) : IVec S160000 32) (ix1 e) = BitVec.ofNat 32 (S e).val)
      ∧ (∀ i, Fin' ((V (Proc.devRef .tc main_arg4) : FVec Ideal S4x4x12x32 .f32) i))
      ∧ (∀ i, Fin' ((V (Proc.devRef .tc main_arg5) : FVec Ideal S4x4x32x32 .f32) i))
      ∧ (∀ i, Fin' ((V (Proc.devRef .tc main_arg6) : FVec Ideal S4x4x32x32 .f32) i))
      ∧ ∀ e a, (res_main_v56 V : FVec Ideal S160000x36 .f32) (ix2 e a) = ((Radial.radial ((a.val : ℝ) + 1) (ρ e) : ℝ) : EReal) := by
  obtain ⟨v, hv, hf⟩ := pre_eq V
  have h0 := congrFun (hf.symm.trans h) (fun k => k.elim0)
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  have f0 := fun e => fin_of_below _ _ (all_of_every _ _ _ _ h3 (ix1 e))
  have f1 := fun e => species_of _ (all_of_every _ _ _ _ h2 (ix1 e))
  choose ρ hρ using f0
  choose S hS using f1
  refine ⟨ρ, S, hρ, hS, fun i => fin_of_below _ _ (all_of_every _ _ _ _ h4 i), fun i => fin_of_below _ _ (all_of_every _ _ _ _ h5 i),
    fun i => fin_of_below _ _ (all_of_every _ _ _ _ h6 i), fun e a => ?_⟩
  have e1 : Ideal.cmp .oeq (res_main_v56 V (ix2 e a)) (v (ix2 e a)) = 1#1 := all_of_every _ _ _ _ h1 (ix2 e a)
  have e2 : res_main_v56 V (ix2 e a) = v (ix2 e a) := of_decide_eq_true (bit_one e1)
  exact e2.trans (hv e a (ρ e) (hρ e))

end Cert.PreVal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tables_agree
public import proofs.«01_k».proof.Proof.Gen.ReferenceIdeal.Run
public import Idealize.ShloMosaic.Adequacy
public import Idealize.ShloMosaic.Init
public import Idealize.ShloMosaic.Lib.Claim
public import proofs.«01_k».proof.Proof.Tail
public import proofs.«01_k».proof.Proof.PreVal

@[expose] public section

set_option maxRecDepth 16384

noncomputable section

namespace Cert.Proof

open Idealize.ShloMosaic Idealize.SL.Sem

/-- The kernel runs to its end, leaves its arguments as they were and every counter at zero. -/
theorem frame_p : Cert.quiescent_Kernel := fun m ρ _ => Cert.Kernel.Gen.frame m ρ
/-- So does its ideal reading. -/
theorem frame_pi : Cert.quiescent_KernelIdeal := fun m ρ _ => Cert.KernelIdeal.Gen.frame m ρ
/-- So does its ideal reading under the precondition. -/
theorem frame_pi_pre : Cert.quiescent_KernelIdeal_pre_tables_agree := fun m ρ _ => Cert.KernelIdeal.Gen.frame m ρ
/-- So does the reference's ideal reading. -/
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)
/-- So does the reference's ideal reading under the precondition. -/
theorem frame_ri_pre : Cert.quiescent_ReferenceIdeal_pre_tables_agree := fun m ρ _ => frame_ri m ρ trivial

/-- The two named constants are the literals they stand for, rounded. -/
theorem preserves : Cert.preserves_Kernel_KernelIdeal :=
  ⟨IdealRules.named_const.statement Cert.KernelIdeal.κ "neg_inv_cut" .f32 0xBE4CCCCD#32 ((-1 / 5 : ℝ) : EReal) rfl,
   IdealRules.named_const.statement Cert.KernelIdeal.κ "inv_cut" .f32 0x3E4CCCCD#32 ((1 / 5 : ℝ) : EReal) rfl⟩

/-- The two memories hold the same arguments on device `c`. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' (c.tc.loc Cert.ReferenceIdeal.main_arg0) = m (c.tc.loc Cert.KernelIdeal.main_arg0)
  ∧ m' (c.tc.loc Cert.ReferenceIdeal.main_arg1) = m (c.tc.loc Cert.KernelIdeal.main_arg1)
  ∧ m' (c.tc.loc Cert.ReferenceIdeal.main_arg2) = m (c.tc.loc Cert.KernelIdeal.main_arg2)
  ∧ m' (c.tc.loc Cert.ReferenceIdeal.main_arg3) = m (c.tc.loc Cert.KernelIdeal.main_arg3)
  ∧ m' (c.tc.loc Cert.ReferenceIdeal.main_arg4) = m (c.tc.loc Cert.KernelIdeal.main_arg4)
  ∧ m' (c.tc.loc Cert.ReferenceIdeal.main_arg5) = m (c.tc.loc Cert.KernelIdeal.main_arg5)
  ∧ m' (c.tc.loc Cert.ReferenceIdeal.main_arg6) = m (c.tc.loc Cert.KernelIdeal.main_arg6)
  ∧ m' (c.tc.loc Cert.ReferenceIdeal.main_arg7) = m (c.tc.loc Cert.KernelIdeal.main_arg7)

section
variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD}

/-- What the precondition gives on device `c`, for the kernel's memory and for the reference's. -/
theorem facts_at (hpre : Cert.Pre_KernelIdeal_tables_agree m) (h : Agree m m' c) :
    ∃ (ρ : Fin 160000 → ℝ) (S : Fin 160000 → Fin 4), Final.Good m c ρ S
      ∧ (∀ e, (m' (c.tc.loc Cert.ReferenceIdeal.main_arg1) : IVec Cert.ReferenceIdeal.S160000 32) (ix1 e) = BitVec.ofNat 32 (S e).val)
      ∧ ∀ e a, (Cert.ReferenceIdeal.Value.res_main_v56 (StableHlo.launchContents m' c) : FVec Ideal Cert.ReferenceIdeal.S160000x36 .f32) (ix2 e a)
          = ((Radial.radial ((a.val : ℝ) + 1) (ρ e) : ℝ) : EReal) := by
  obtain ⟨h0, h1, h2, h3, h4, h5, h6, h7⟩ := h
  have hp := hpre c
  rw [← h0, ← h1, ← h2, ← h3, ← h4, ← h5, ← h6, ← h7] at hp
  obtain ⟨ρ, S, f0, f1, f4, f5, f6, f⟩ := PreVal.facts_of (StableHlo.launchContents m' c) hp
  refine ⟨ρ, S, ⟨fun e => ?_, fun e => ?_, fun i => ?_, fun i => ?_, fun i => ?_⟩, f1, f⟩
  · rw [← h0]; exact f0 e
  · rw [← h1]; exact f1 e
  · rw [← h4]; exact f4 i
  · rw [← h5]; exact f5 i
  · rw [← h6]; exact f6 i

/-- The target over the reference's weights of the first three layers is the target over the kernel's. -/
theorem goal_eq (h : Agree m m' c) (ρ : Fin 160000 → ℝ) (S : Fin 160000 → Fin 4) (l : Fin 4) (n off : ℕ) (hn : n ≤ 12) :
    Final.target (m' (c.tc.loc Cert.ReferenceIdeal.main_arg4)) (m' (c.tc.loc Cert.ReferenceIdeal.main_arg5))
      (m' (c.tc.loc Cert.ReferenceIdeal.main_arg6)) (m (c.tc.loc Cert.KernelIdeal.main_arg7)) ρ S l n off hn
      = Final.goal m c ρ S l n off hn := by
  obtain ⟨h0, h1, h2, h3, h4, h5, h6, h7⟩ := h
  unfold Final.goal
  rw [h4, h5, h6]

end

set_option maxHeartbeats 4000000 in
/-- THE VALUE CLAIM: under the precondition the kernel's four results and the reference's four are the same arrays. -/
theorem algebraic : Cert.algebraic_KernelIdeal_ReferenceIdeal_pre_tables_agree := by
  pair_intro
  · run_from Cert.KernelIdeal.Gen.run_main m g
    · exact Cert.KernelIdeal.Gen.W_main_arg0 m _ _
    · exact Cert.KernelIdeal.Gen.W_main_arg1 m _ _
    · exact Cert.KernelIdeal.Gen.W_main_arg2 m _ _
    · exact Cert.KernelIdeal.Gen.W_main_arg3 m _ _
    · exact Cert.KernelIdeal.Gen.W_main_arg4 m _ _
    · exact Cert.KernelIdeal.Gen.W_main_arg5 m _ _
    · exact Cert.KernelIdeal.Gen.W_main_arg6 m _ _
    · exact Cert.KernelIdeal.Gen.W_main_arg7 m _ _
  · run_from Cert.ReferenceIdeal.Value.run m' g'
    · obtain ⟨ρ, S, g0, hs, hv⟩ := facts_at hpre (hagree c)
      refine funext fun i => ?_
      obtain ⟨e, o, rfl⟩ : ∃ (e : Fin 160000) (o : Fin 12), i = ix2 e o :=
        ⟨i 0, i 1, funext fun a => by fin_cases a <;> rfl⟩
      refine Eq.trans ?_ (Final.result0 g0 e o).symm
      rw [← goal_eq (hagree c)]
      exact RefVal.ref_at _ _ (m' (c.tc.loc Cert.ReferenceIdeal.main_arg4)) (m' (c.tc.loc Cert.ReferenceIdeal.main_arg5))
        (m' (c.tc.loc Cert.ReferenceIdeal.main_arg6)) (m (c.tc.loc Cert.KernelIdeal.main_arg7)) ρ S hs hv 0 12 0 (by decide) (by decide) RefVal.d12 _ _ _ _ _ _ _ e o
    · obtain ⟨ρ, S, g0, hs, hv⟩ := facts_at hpre (hagree c)
      refine funext fun i => ?_
      obtain ⟨e, o, rfl⟩ : ∃ (e : Fin 160000) (o : Fin 10), i = ix2 e o :=
        ⟨i 0, i 1, funext fun a => by fin_cases a <;> rfl⟩
      refine Eq.trans ?_ (Final.result1 g0 e o).symm
      rw [← goal_eq (hagree c)]
      exact RefVal.ref_at _ _ (m' (c.tc.loc Cert.ReferenceIdeal.main_arg4)) (m' (c.tc.loc Cert.ReferenceIdeal.main_arg5))
        (m' (c.tc.loc Cert.ReferenceIdeal.main_arg6)) (m (c.tc.loc Cert.KernelIdeal.main_arg7)) ρ S hs hv 1 10 12 (by decide) (by decide) RefVal.d10 _ _ _ _ _ _ _ e o
    · obtain ⟨ρ, S, g0, hs, hv⟩ := facts_at hpre (hagree c)
      refine funext fun i => ?_
      obtain ⟨e, o, rfl⟩ : ∃ (e : Fin 160000) (o : Fin 8), i = ix2 e o :=
        ⟨i 0, i 1, funext fun a => by fin_cases a <;> rfl⟩
      refine Eq.trans ?_ (Final.result2 g0 e o).symm
      rw [← goal_eq (hagree c)]
      exact RefVal.ref_at _ _ (m' (c.tc.loc Cert.ReferenceIdeal.main_arg4)) (m' (c.tc.loc Cert.ReferenceIdeal.main_arg5))
        (m' (c.tc.loc Cert.ReferenceIdeal.main_arg6)) (m (c.tc.loc Cert.KernelIdeal.main_arg7)) ρ S hs hv 2 8 22 (by decide) (by decide) RefVal.d8 _ _ _ _ _ _ _ e o
    · obtain ⟨ρ, S, g0, hs, hv⟩ := facts_at hpre (hagree c)
      refine funext fun i => ?_
      obtain ⟨e, o, rfl⟩ : ∃ (e : Fin 160000) (o : Fin 6), i = ix2 e o :=
        ⟨i 0, i 1, funext fun a => by fin_cases a <;> rfl⟩
      refine Eq.trans ?_ (Final.result3 g0 e o).symm
      rw [← goal_eq (hagree c)]
      exact RefVal.ref_at _ _ (m' (c.tc.loc Cert.ReferenceIdeal.main_arg4)) (m' (c.tc.loc Cert.ReferenceIdeal.main_arg5))
        (m' (c.tc.loc Cert.ReferenceIdeal.main_arg6)) (m (c.tc.loc Cert.KernelIdeal.main_arg7)) ρ S hs hv 3 6 30 (by decide) (by decide) RefVal.d6 _ _ _ _ _ _ _ e o

/-- Everything claimed. -/
theorem claim : Cert.Claim := ⟨Cert.Kernel.Gen.facts, Cert.KernelIdeal.Gen.facts, Cert.ReferenceIdeal.Gen.facts, Cert.Pre_tables_agree.Gen.facts,
  frame_p, frame_pi, frame_pi_pre, frame_ri, frame_ri_pre, preserves, algebraic⟩

end Cert.Proof

end
